-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router [hPre_finite_router : Cert.Pre_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router [hPre_finite_router : Cert.Pre_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_router [hKernelIdeal : Cert.KernelIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_router [hReferenceIdeal : Cert.ReferenceIdeal.Facts] [hPre_finite_router : Cert.Pre_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xFF61B1E6#32 ⊥

def algebraic_KernelIdeal_ReferenceIdeal_pre_finite_router [hKernelIdeal : Cert.KernelIdeal.Facts] [hReferenceIdeal : Cert.ReferenceIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_router : Cert.Pre_finite_router.Facts),
    quiescent_Kernel (hKernel := hKernel)
    ∧ quiescent_KernelIdeal (hKernelIdeal := hKernelIdeal)
    ∧ quiescent_KernelIdeal_pre_finite_router (hKernelIdeal := hKernelIdeal) (hPre_finite_router := hPre_finite_router)
    ∧ quiescent_ReferenceIdeal (hReferenceIdeal := hReferenceIdeal)
    ∧ quiescent_ReferenceIdeal_pre_finite_router (hReferenceIdeal := hReferenceIdeal) (hPre_finite_router := hPre_finite_router)
    ∧ preserves_Kernel_KernelIdeal
    ∧ algebraic_KernelIdeal_ReferenceIdeal_pre_finite_router (hKernelIdeal := hKernelIdeal) (hReferenceIdeal := hReferenceIdeal) (hPre_finite_router := hPre_finite_router)
-- ==== Pre_finite_router.lean ====
abbrev S32x8x1024 : Shape := ⟨3, ![32, 8, 1024]⟩
abbrev S64x1024 : Shape := ⟨2, ![64, 1024]⟩
abbrev S64x1024x1024 : Shape := ⟨3, ![64, 1024, 1024]⟩
abbrev S64x512x1024 : Shape := ⟨3, ![64, 512, 1024]⟩
abbrev S_ : Shape := ⟨0, ![]⟩

class Facts : Prop where
  bcast_S_S32x8x1024 : S_.BroadcastsInDim S32x8x1024 (![] : Fin 0 → Fin S32x8x1024.rank)
  reducesTo_S32x8x1024_S_d0_1_2 : S32x8x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn {F : FTy → Type} [FloatOps F] (main_arg0 : FVec F S32x8x1024 .f32) (main_arg1 : FVec F S64x1024 .f32) (main_arg2 : FVec F S64x1024x1024 .f32) (main_arg3 : FVec F S64x512x1024 .f32) : IVec S_ 1 :=
  let main_v0 : FVec F S32x8x1024 .f32 := Host.absf main_arg0
  let main_cst : FVec F S_ .f32 := constant S_ .f32 0x7F800000#32
  let main_v1 : FVec F S32x8x1024 .f32 := broadcastInDim S32x8x1024 ![] bcast_S_S32x8x1024 main_cst
  let main_v2 : IVec S32x8x1024 1 := cmpf .olt main_v0 main_v1
  let main_c : IVec S_ 1 := constantI S_ 1 1#1
  let main_v3 : IVec S_ 1 := (fun x v => Host.reduce IntOp.andi x v reducesTo_S32x8x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  main_v8
-- ==== Kernel.lean ====
abbrev S32x8x1024 : Shape := ⟨3, ![32, 8, 1024]⟩
abbrev S64x1024 : Shape := ⟨2, ![64, 1024]⟩
abbrev S64x1024x1024 : Shape := ⟨3, ![64, 1024, 1024]⟩
abbrev S64x512x1024 : Shape := ⟨3, ![64, 512, 1024]⟩
abbrev S256x1024 : Shape := ⟨2, ![256, 1024]⟩
abbrev S64x256 : Shape := ⟨2, ![64, 256]⟩
abbrev S256x64 : Shape := ⟨2, ![256, 64]⟩
abbrev S256 : Shape := ⟨1, ![256]⟩
abbrev S16 : Shape := ⟨1, ![16]⟩
abbrev S_ : Shape := ⟨0, ![]⟩
abbrev S1x16 : Shape := ⟨2, ![1, 16]⟩
abbrev S256x1 : Shape := ⟨2, ![256, 1]⟩
abbrev S2x1024x1024 : Shape := ⟨3, ![2, 1024, 1024]⟩
abbrev S2x512x1024 : Shape := ⟨3, ![2, 512, 1024]⟩
abbrev S1x1024x1024 : Shape := ⟨3, ![1, 1024, 1024]⟩
abbrev S1024x1024 : Shape := ⟨2, ![1024, 1024]⟩
abbrev S256x512 : Shape := ⟨2, ![256, 512]⟩
abbrev S1x512x1024 : Shape := ⟨3, ![1, 512, 1024]⟩
abbrev S512x1024 : Shape := ⟨2, ![512, 1024]⟩

abbrev nBuf : Table → Nat
  | .hbm => 12
  | .local .tc .vmem => 11
  | .local .scVector .vmem => 3
  | _ => 0

abbrev bufTy : (tb : Table) → Fin (nBuf tb) → BufTy
  | .hbm, ⟨0, _⟩ => ⟨S32x8x1024, .f32⟩
  | .hbm, ⟨1, _⟩ => ⟨S64x1024, .f32⟩
  | .hbm, ⟨2, _⟩ => ⟨S64x1024x1024, .f32⟩
  | .hbm, ⟨3, _⟩ => ⟨S64x512x1024, .f32⟩
  | .hbm, ⟨4, _⟩ => ⟨S256x1024, .f32⟩
  | .hbm, ⟨5, _⟩ => ⟨S64x256, .f32⟩
  | .hbm, ⟨6, _⟩ => ⟨S256, .i32⟩
  | .hbm, ⟨7, _⟩ => ⟨S256, .f32⟩
  | .hbm, ⟨8, _⟩ => ⟨S256x1, .i32⟩
  | .hbm, ⟨9, _⟩ => ⟨S256x1, .f32⟩
  | .hbm, ⟨10, _⟩ => ⟨S256x1024, .f32⟩
  | .hbm, ⟨11, _⟩ => ⟨S32x8x1024, .f32⟩
  | .local .tc .vmem, ⟨0, _⟩ => ⟨S256x1024, .f32⟩
  | .local .tc .vmem, ⟨1, _⟩ => ⟨S64x1024, .f32⟩
  | .local .tc .vmem, ⟨2, _⟩ => ⟨S64x256, .f32⟩
  | .local .tc .vmem, ⟨3, _⟩ => ⟨S256x1, .i32⟩
  | .local .tc .vmem, ⟨4, _⟩ => ⟨S256x1, .f32⟩
  | .local .tc .vmem, ⟨5, _⟩ => ⟨S256x1024, .f32⟩
  | .local .tc .vmem, ⟨6, _⟩ => ⟨S2x1024x1024, .f32⟩
  | .local .tc .vmem, ⟨7, _⟩ => ⟨S2x1024x1024, .f32⟩
  | .local .tc .vmem, ⟨8, _⟩ => ⟨S2x512x1024, .f32⟩
  | .local .tc .vmem, ⟨9, _⟩ => ⟨S2x512x1024, .f32⟩
  | .local .tc .vmem, ⟨10, _⟩ => ⟨S256x1024, .f32⟩
  | .local .scVector .vmem, ⟨0, _⟩ => ⟨S64x256, .f32⟩
  | .local .scVector .vmem, ⟨1, _⟩ => ⟨S16, .i32⟩
  | .local .scVector .vmem, ⟨2, _⟩ => ⟨S16, .f32⟩
  | _, _ => ⟨S32x8x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v1_scv : Ref sig .scVector := ⟨.hbm, 5, rfl⟩
abbrev main_v2_0_scv : Ref sig .scVector := ⟨.hbm, 6, rfl⟩
abbrev main_v2_1_scv : Ref sig .scVector := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc2_stg0_0 : Ref sig .tc := ⟨.vmem, 3, rfl⟩
abbrev cc2_stg1_0 : Ref sig .tc := ⟨.vmem, 4, rfl⟩
abbrev cc2_stg2_0 : Ref sig .tc := ⟨.vmem, 5, rfl⟩
abbrev cc2_stg3_0 : Ref sig .tc := ⟨.vmem, 6, rfl⟩
abbrev cc2_stg3_1 : Ref sig .tc := ⟨.vmem, 7, rfl⟩
abbrev cc2_stg4_0 : Ref sig .tc := ⟨.vmem, 8, rfl⟩
abbrev cc2_stg4_1 : Ref sig .tc := ⟨.vmem, 9, rfl⟩
abbrev cc2_stg5_0 : Ref sig .tc := ⟨.vmem, 10, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev cc2_sem0_0 : DmaSem sig := 6
abbrev cc2_sem1_0 : DmaSem sig := 7
abbrev cc2_sem2_0 : DmaSem sig := 8
abbrev cc2_sem3_0 : DmaSem sig := 9
abbrev cc2_sem3_1 : DmaSem sig := 10
abbrev cc2_sem4_0 : DmaSem sig := 11
abbrev cc2_sem4_1 : DmaSem sig := 12
abbrev cc2_sem5_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_cond1 (i : grid1.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_0 : BitVec 32 := 16#32
  let v2 : BitVec 1 := Scalar.cmpi .slt v1 c16_i32_0
  let v3 : BitVec 32 := Scalar.extui v2
  let c0_i32 : BitVec 32 := 0#32
  let v4 : BitVec 1 := Scalar.cmpi .ne v3 c0_i32
  v4

def k1_off1 (i : grid1.Coords) : Fin 2 → Nat :=
  let c0_i32_4 : BitVec 32 := 0#32
  let v9 : Index := Scalar.indexCast c0_i32_4
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v10 : Index := Scalar.indexCast v5
  ![0, v10.toNat]
def k1_off2 (i : grid1.Coords) : Fin 2 → Nat :=
  let c1_i32_5 : BitVec 32 := 1#32
  let v22 : Index := Scalar.indexCast c1_i32_5
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v23 : Index := Scalar.indexCast v5
  ![1, v23.toNat]
def k1_off3 (i : grid1.Coords) : Fin 2 → Nat :=
  let c2_i32_6 : BitVec 32 := 2#32
  let v35 : Index := Scalar.indexCast c2_i32_6
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v36 : Index := Scalar.indexCast v5
  ![2, v36.toNat]
def k1_off4 (i : grid1.Coords) : Fin 2 → Nat :=
  let c3_i32_7 : BitVec 32 := 3#32
  let v48 : Index := Scalar.indexCast c3_i32_7
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v49 : Index := Scalar.indexCast v5
  ![3, v49.toNat]
def k1_off5 (i : grid1.Coords) : Fin 2 → Nat :=
  let c4_i32_8 : BitVec 32 := 4#32
  let v61 : Index := Scalar.indexCast c4_i32_8
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v62 : Index := Scalar.indexCast v5
  ![4, v62.toNat]
def k1_off6 (i : grid1.Coords) : Fin 2 → Nat :=
  let c5_i32_9 : BitVec 32 := 5#32
  let v74 : Index := Scalar.indexCast c5_i32_9
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v75 : Index := Scalar.indexCast v5
  ![5, v75.toNat]
def k1_off7 (i : grid1.Coords) : Fin 2 → Nat :=
  let c6_i32_10 : BitVec 32 := 6#32
  let v87 : Index := Scalar.indexCast c6_i32_10
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v88 : Index := Scalar.indexCast v5
  ![6, v88.toNat]
def k1_off8 (i : grid1.Coords) : Fin 2 → Nat :=
  let c7_i32_11 : BitVec 32 := 7#32
  let v100 : Index := Scalar.indexCast c7_i32_11
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v101 : Index := Scalar.indexCast v5
  ![7, v101.toNat]
def k1_off9 (i : grid1.Coords) : Fin 2 → Nat :=
  let c8_i32_12 : BitVec 32 := 8#32
  let v113 : Index := Scalar.indexCast c8_i32_12
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v114 : Index := Scalar.indexCast v5
  ![8, v114.toNat]
def k1_off10 (i : grid1.Coords) : Fin 2 → Nat :=
  let c9_i32_13 : BitVec 32 := 9#32
  let v126 : Index := Scalar.indexCast c9_i32_13
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v127 : Index := Scalar.indexCast v5
  ![9, v127.toNat]
def k1_off11 (i : grid1.Coords) : Fin 2 → Nat :=
  let c10_i32_14 : BitVec 32 := 10#32
  let v139 : Index := Scalar.indexCast c10_i32_14
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v140 : Index := Scalar.indexCast v5
  ![10, v140.toNat]
def k1_off12 (i : grid1.Coords) : Fin 2 → Nat :=
  let c11_i32_15 : BitVec 32 := 11#32
  let v152 : Index := Scalar.indexCast c11_i32_15
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v153 : Index := Scalar.indexCast v5
  ![11, v153.toNat]
def k1_off13 (i : grid1.Coords) : Fin 2 → Nat :=
  let c12_i32_16 : BitVec 32 := 12#32
  let v165 : Index := Scalar.indexCast c12_i32_16
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v166 : Index := Scalar.indexCast v5
  ![12, v166.toNat]
def k1_off14 (i : grid1.Coords) : Fin 2 → Nat :=
  let c13_i32_17 : BitVec 32 := 13#32
  let v178 : Index := Scalar.indexCast c13_i32_17
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v179 : Index := Scalar.indexCast v5
  ![13, v179.toNat]
def k1_off15 (i : grid1.Coords) : Fin 2 → Nat :=
  let c14_i32_18 : BitVec 32 := 14#32
  let v191 : Index := Scalar.indexCast c14_i32_18
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v192 : Index := Scalar.indexCast v5
  ![14, v192.toNat]
def k1_off16 (i : grid1.Coords) : Fin 2 → Nat :=
  let c15_i32_19 : BitVec 32 := 15#32
  let v204 : Index := Scalar.indexCast c15_i32_19
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v205 : Index := Scalar.indexCast v5
  ![15, v205.toNat]
def k1_off17 (i : grid1.Coords) : Fin 2 → Nat :=
  let c16_i32_21 : BitVec 32 := 16#32
  let v217 : Index := Scalar.indexCast c16_i32_21
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v218 : Index := Scalar.indexCast v5
  ![16, v218.toNat]
def k1_off18 (i : grid1.Coords) : Fin 2 → Nat :=
  let c17_i32_22 : BitVec 32 := 17#32
  let v230 : Index := Scalar.indexCast c17_i32_22
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v231 : Index := Scalar.indexCast v5
  ![17, v231.toNat]
def k1_off19 (i : grid1.Coords) : Fin 2 → Nat :=
  let c18_i32_23 : BitVec 32 := 18#32
  let v243 : Index := Scalar.indexCast c18_i32_23
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v244 : Index := Scalar.indexCast v5
  ![18, v244.toNat]
def k1_off20 (i : grid1.Coords) : Fin 2 → Nat :=
  let c19_i32_24 : BitVec 32 := 19#32
  let v256 : Index := Scalar.indexCast c19_i32_24
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v257 : Index := Scalar.indexCast v5
  ![19, v257.toNat]
def k1_off21 (i : grid1.Coords) : Fin 2 → Nat :=
  let c20_i32_25 : BitVec 32 := 20#32
  let v269 : Index := Scalar.indexCast c20_i32_25
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v270 : Index := Scalar.indexCast v5
  ![20, v270.toNat]
def k1_off22 (i : grid1.Coords) : Fin 2 → Nat :=
  let c21_i32_26 : BitVec 32 := 21#32
  let v282 : Index := Scalar.indexCast c21_i32_26
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v283 : Index := Scalar.indexCast v5
  ![21, v283.toNat]
def k1_off23 (i : grid1.Coords) : Fin 2 → Nat :=
  let c22_i32_27 : BitVec 32 := 22#32
  let v295 : Index := Scalar.indexCast c22_i32_27
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v296 : Index := Scalar.indexCast v5
  ![22, v296.toNat]
def k1_off24 (i : grid1.Coords) : Fin 2 → Nat :=
  let c23_i32_28 : BitVec 32 := 23#32
  let v308 : Index := Scalar.indexCast c23_i32_28
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v309 : Index := Scalar.indexCast v5
  ![23, v309.toNat]
def k1_off25 (i : grid1.Coords) : Fin 2 → Nat :=
  let c24_i32_29 : BitVec 32 := 24#32
  let v321 : Index := Scalar.indexCast c24_i32_29
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v322 : Index := Scalar.indexCast v5
  ![24, v322.toNat]
def k1_off26 (i : grid1.Coords) : Fin 2 → Nat :=
  let c25_i32_30 : BitVec 32 := 25#32
  let v334 : Index := Scalar.indexCast c25_i32_30
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v335 : Index := Scalar.indexCast v5
  ![25, v335.toNat]
def k1_off27 (i : grid1.Coords) : Fin 2 → Nat :=
  let c26_i32_31 : BitVec 32 := 26#32
  let v347 : Index := Scalar.indexCast c26_i32_31
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v348 : Index := Scalar.indexCast v5
  ![26, v348.toNat]
def k1_off28 (i : grid1.Coords) : Fin 2 → Nat :=
  let c27_i32_32 : BitVec 32 := 27#32
  let v360 : Index := Scalar.indexCast c27_i32_32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v361 : Index := Scalar.indexCast v5
  ![27, v361.toNat]
def k1_off29 (i : grid1.Coords) : Fin 2 → Nat :=
  let c28_i32_33 : BitVec 32 := 28#32
  let v373 : Index := Scalar.indexCast c28_i32_33
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v374 : Index := Scalar.indexCast v5
  ![28, v374.toNat]
def k1_off30 (i : grid1.Coords) : Fin 2 → Nat :=
  let c29_i32_34 : BitVec 32 := 29#32
  let v386 : Index := Scalar.indexCast c29_i32_34
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v387 : Index := Scalar.indexCast v5
  ![29, v387.toNat]
def k1_off31 (i : grid1.Coords) : Fin 2 → Nat :=
  let c30_i32_35 : BitVec 32 := 30#32
  let v399 : Index := Scalar.indexCast c30_i32_35
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v400 : Index := Scalar.indexCast v5
  ![30, v400.toNat]
def k1_off32 (i : grid1.Coords) : Fin 2 → Nat :=
  let c31_i32_36 : BitVec 32 := 31#32
  let v412 : Index := Scalar.indexCast c31_i32_36
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v413 : Index := Scalar.indexCast v5
  ![31, v413.toNat]
def k1_off33 (i : grid1.Coords) : Fin 2 → Nat :=
  let c32_i32_37 : BitVec 32 := 32#32
  let v425 : Index := Scalar.indexCast c32_i32_37
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v426 : Index := Scalar.indexCast v5
  ![32, v426.toNat]
def k1_off34 (i : grid1.Coords) : Fin 2 → Nat :=
  let c33_i32_38 : BitVec 32 := 33#32
  let v438 : Index := Scalar.indexCast c33_i32_38
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v439 : Index := Scalar.indexCast v5
  ![33, v439.toNat]
def k1_off35 (i : grid1.Coords) : Fin 2 → Nat :=
  let c34_i32_39 : BitVec 32 := 34#32
  let v451 : Index := Scalar.indexCast c34_i32_39
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v452 : Index := Scalar.indexCast v5
  ![34, v452.toNat]
def k1_off36 (i : grid1.Coords) : Fin 2 → Nat :=
  let c35_i32_40 : BitVec 32 := 35#32
  let v464 : Index := Scalar.indexCast c35_i32_40
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v465 : Index := Scalar.indexCast v5
  ![35, v465.toNat]
def k1_off37 (i : grid1.Coords) : Fin 2 → Nat :=
  let c36_i32_41 : BitVec 32 := 36#32
  let v477 : Index := Scalar.indexCast c36_i32_41
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v478 : Index := Scalar.indexCast v5
  ![36, v478.toNat]
def k1_off38 (i : grid1.Coords) : Fin 2 → Nat :=
  let c37_i32_42 : BitVec 32 := 37#32
  let v490 : Index := Scalar.indexCast c37_i32_42
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v491 : Index := Scalar.indexCast v5
  ![37, v491.toNat]
def k1_off39 (i : grid1.Coords) : Fin 2 → Nat :=
  let c38_i32_43 : BitVec 32 := 38#32
  let v503 : Index := Scalar.indexCast c38_i32_43
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v504 : Index := Scalar.indexCast v5
  ![38, v504.toNat]
def k1_off40 (i : grid1.Coords) : Fin 2 → Nat :=
  let c39_i32_44 : BitVec 32 := 39#32
  let v516 : Index := Scalar.indexCast c39_i32_44
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v517 : Index := Scalar.indexCast v5
  ![39, v517.toNat]
def k1_off41 (i : grid1.Coords) : Fin 2 → Nat :=
  let c40_i32_45 : BitVec 32 := 40#32
  let v529 : Index := Scalar.indexCast c40_i32_45
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v530 : Index := Scalar.indexCast v5
  ![40, v530.toNat]
def k1_off42 (i : grid1.Coords) : Fin 2 → Nat :=
  let c41_i32_46 : BitVec 32 := 41#32
  let v542 : Index := Scalar.indexCast c41_i32_46
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v543 : Index := Scalar.indexCast v5
  ![41, v543.toNat]
def k1_off43 (i : grid1.Coords) : Fin 2 → Nat :=
  let c42_i32_47 : BitVec 32 := 42#32
  let v555 : Index := Scalar.indexCast c42_i32_47
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v556 : Index := Scalar.indexCast v5
  ![42, v556.toNat]
def k1_off44 (i : grid1.Coords) : Fin 2 → Nat :=
  let c43_i32_48 : BitVec 32 := 43#32
  let v568 : Index := Scalar.indexCast c43_i32_48
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v569 : Index := Scalar.indexCast v5
  ![43, v569.toNat]
def k1_off45 (i : grid1.Coords) : Fin 2 → Nat :=
  let c44_i32_49 : BitVec 32 := 44#32
  let v581 : Index := Scalar.indexCast c44_i32_49
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v582 : Index := Scalar.indexCast v5
  ![44, v582.toNat]
def k1_off46 (i : grid1.Coords) : Fin 2 → Nat :=
  let c45_i32_50 : BitVec 32 := 45#32
  let v594 : Index := Scalar.indexCast c45_i32_50
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v595 : Index := Scalar.indexCast v5
  ![45, v595.toNat]
def k1_off47 (i : grid1.Coords) : Fin 2 → Nat :=
  let c46_i32_51 : BitVec 32 := 46#32
  let v607 : Index := Scalar.indexCast c46_i32_51
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v608 : Index := Scalar.indexCast v5
  ![46, v608.toNat]
def k1_off48 (i : grid1.Coords) : Fin 2 → Nat :=
  let c47_i32_52 : BitVec 32 := 47#32
  let v620 : Index := Scalar.indexCast c47_i32_52
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v621 : Index := Scalar.indexCast v5
  ![47, v621.toNat]
def k1_off49 (i : grid1.Coords) : Fin 2 → Nat :=
  let c48_i32_53 : BitVec 32 := 48#32
  let v633 : Index := Scalar.indexCast c48_i32_53
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v634 : Index := Scalar.indexCast v5
  ![48, v634.toNat]
def k1_off50 (i : grid1.Coords) : Fin 2 → Nat :=
  let c49_i32_54 : BitVec 32 := 49#32
  let v646 : Index := Scalar.indexCast c49_i32_54
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v647 : Index := Scalar.indexCast v5
  ![49, v647.toNat]
def k1_off51 (i : grid1.Coords) : Fin 2 → Nat :=
  let c50_i32_55 : BitVec 32 := 50#32
  let v659 : Index := Scalar.indexCast c50_i32_55
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v660 : Index := Scalar.indexCast v5
  ![50, v660.toNat]
def k1_off52 (i : grid1.Coords) : Fin 2 → Nat :=
  let c51_i32_56 : BitVec 32 := 51#32
  let v672 : Index := Scalar.indexCast c51_i32_56
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v673 : Index := Scalar.indexCast v5
  ![51, v673.toNat]
def k1_off53 (i : grid1.Coords) : Fin 2 → Nat :=
  let c52_i32_57 : BitVec 32 := 52#32
  let v685 : Index := Scalar.indexCast c52_i32_57
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v686 : Index := Scalar.indexCast v5
  ![52, v686.toNat]
def k1_off54 (i : grid1.Coords) : Fin 2 → Nat :=
  let c53_i32_58 : BitVec 32 := 53#32
  let v698 : Index := Scalar.indexCast c53_i32_58
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v699 : Index := Scalar.indexCast v5
  ![53, v699.toNat]
def k1_off55 (i : grid1.Coords) : Fin 2 → Nat :=
  let c54_i32_59 : BitVec 32 := 54#32
  let v711 : Index := Scalar.indexCast c54_i32_59
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v712 : Index := Scalar.indexCast v5
  ![54, v712.toNat]
def k1_off56 (i : grid1.Coords) : Fin 2 → Nat :=
  let c55_i32_60 : BitVec 32 := 55#32
  let v724 : Index := Scalar.indexCast c55_i32_60
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v725 : Index := Scalar.indexCast v5
  ![55, v725.toNat]
def k1_off57 (i : grid1.Coords) : Fin 2 → Nat :=
  let c56_i32_61 : BitVec 32 := 56#32
  let v737 : Index := Scalar.indexCast c56_i32_61
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v738 : Index := Scalar.indexCast v5
  ![56, v738.toNat]
def k1_off58 (i : grid1.Coords) : Fin 2 → Nat :=
  let c57_i32_62 : BitVec 32 := 57#32
  let v750 : Index := Scalar.indexCast c57_i32_62
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v751 : Index := Scalar.indexCast v5
  ![57, v751.toNat]
def k1_off59 (i : grid1.Coords) : Fin 2 → Nat :=
  let c58_i32_63 : BitVec 32 := 58#32
  let v763 : Index := Scalar.indexCast c58_i32_63
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v764 : Index := Scalar.indexCast v5
  ![58, v764.toNat]
def k1_off60 (i : grid1.Coords) : Fin 2 → Nat :=
  let c59_i32_64 : BitVec 32 := 59#32
  let v776 : Index := Scalar.indexCast c59_i32_64
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v777 : Index := Scalar.indexCast v5
  ![59, v777.toNat]
def k1_off61 (i : grid1.Coords) : Fin 2 → Nat :=
  let c60_i32_65 : BitVec 32 := 60#32
  let v789 : Index := Scalar.indexCast c60_i32_65
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v790 : Index := Scalar.indexCast v5
  ![60, v790.toNat]
def k1_off62 (i : grid1.Coords) : Fin 2 → Nat :=
  let c61_i32_66 : BitVec 32 := 61#32
  let v802 : Index := Scalar.indexCast c61_i32_66
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v803 : Index := Scalar.indexCast v5
  ![61, v803.toNat]
def k1_off63 (i : grid1.Coords) : Fin 2 → Nat :=
  let c62_i32_67 : BitVec 32 := 62#32
  let v815 : Index := Scalar.indexCast c62_i32_67
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v816 : Index := Scalar.indexCast v5
  ![62, v816.toNat]
def k1_off64 (i : grid1.Coords) : Fin 2 → Nat :=
  let c63_i32_68 : BitVec 32 := 63#32
  let v828 : Index := Scalar.indexCast c63_i32_68
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  let v829 : Index := Scalar.indexCast v5
  ![63, v829.toNat]
def k1_off65 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_1 : BitVec 32 := 16#32
  let v5 : BitVec 32 := Scalar.muli v1 c16_i32_1
  ![v5.toNat]
abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x1 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2x1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2x512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S256x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S32x8x1024 : Shape := ⟨3, ![32, 8, 1024]⟩
abbrev S64x1024 : Shape := ⟨2, ![64, 1024]⟩
abbrev S64x1024x1024 : Shape := ⟨3, ![64, 1024, 1024]⟩
abbrev S64x512x1024 : Shape := ⟨3, ![64, 512, 1024]⟩
abbrev S256x1024 : Shape := ⟨2, ![256, 1024]⟩
abbrev S1024x64 : Shape := ⟨2, ![1024, 64]⟩
abbrev S256x64 : Shape := ⟨2, ![256, 64]⟩
abbrev S_ : Shape := ⟨0, ![]⟩
abbrev S256 : Shape := ⟨1, ![256]⟩
abbrev S256x1 : Shape := ⟨2, ![256, 1]⟩
abbrev S256x2 : Shape := ⟨2, ![256, 2]⟩
abbrev S256x2x1 : Shape := ⟨3, ![256, 2, 1]⟩
abbrev S1x1x64 : Shape := ⟨3, ![1, 1, 64]⟩
abbrev S256x2x64 : Shape := ⟨3, ![256, 2, 64]⟩
abbrev S64x1024x256 : Shape := ⟨3, ![64, 1024, 256]⟩
abbrev S64x256x1024 : Shape := ⟨3, ![64, 256, 1024]⟩
abbrev S64x256x512 : Shape := ⟨3, ![64, 256, 512]⟩
abbrev S64x256 : Shape := ⟨2, ![64, 256]⟩
abbrev S64x256x1 : Shape := ⟨3, ![64, 256, 1]⟩

abbrev nBuf : Space → Nat
  | .hbm => 61
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S64x1024, .f32⟩
  | .hbm, ⟨2, _⟩ => ⟨S64x1024x1024, .f32⟩
  | .hbm, ⟨3, _⟩ => ⟨S64x512x1024, .f32⟩
  | .hbm, ⟨4, _⟩ => ⟨S256x1024, .f32⟩
  | .hbm, ⟨5, _⟩ => ⟨S1024x64, .f32⟩
  | .hbm, ⟨6, _⟩ => ⟨S256x64, .f32⟩
  | .hbm, ⟨7, _⟩ => ⟨S_, .f32⟩
  | .hbm, ⟨8, _⟩ => ⟨S256, .f32⟩
  | .hbm, ⟨9, _⟩ => ⟨S_, .f32⟩
  | .hbm, ⟨10, _⟩ => ⟨S256, .f32⟩
  | .hbm, ⟨11, _⟩ => ⟨S256, .f32⟩
  | .hbm, ⟨12, _⟩ => ⟨S256x1, .f32⟩
  | .hbm, ⟨13, _⟩ => ⟨S256x64, .f32⟩
  | .hbm, ⟨14, _⟩ => ⟨S256x64, .f32⟩
  | .hbm, ⟨15, _⟩ => ⟨S256x64, .f32⟩
  | .hbm, ⟨16, _⟩ => ⟨S_, .f32⟩
  | .hbm, ⟨17, _⟩ => ⟨S256, .f32⟩
  | .hbm, ⟨18, _⟩ => ⟨S256x1, .f32⟩
  | .hbm, ⟨19, _⟩ => ⟨S256x64, .f32⟩
  | .hbm, ⟨20, _⟩ => ⟨S256x64, .f32⟩
  | .hbm, ⟨21, _⟩ => ⟨S256x2, .f32⟩
  | .hbm, ⟨22, _⟩ => ⟨S256x2, .i32⟩
  | .hbm, ⟨23, _⟩ => ⟨S_, .f32⟩
  | .hbm, ⟨24, _⟩ => ⟨S256, .f32⟩
  | .hbm, ⟨25, _⟩ => ⟨S256x1, .f32⟩
  | .hbm, ⟨26, _⟩ => ⟨S256x2, .f32⟩
  | .hbm, ⟨27, _⟩ => ⟨S256x2, .f32⟩
  | .hbm, ⟨28, _⟩ => ⟨S256x2x1, .i32⟩
  | .hbm, ⟨29, _⟩ => ⟨S1x1x64, .i32⟩
  | .hbm, ⟨30, _⟩ => ⟨S256x2x64, .i32⟩
  | .hbm, ⟨31, _⟩ => ⟨S256x2x64, .i32⟩
  | .hbm, ⟨32, _⟩ => ⟨S256x2x64, .i1⟩
  | .hbm, ⟨33, _⟩ => ⟨S256x2x64, .f32⟩
  | .hbm, ⟨34, _⟩ => ⟨S256x2x1, .f32⟩
  | .hbm, ⟨35, _⟩ => ⟨S256x2x64, .f32⟩
  | .hbm, ⟨36, _⟩ => ⟨S256x2x64, .f32⟩
  | .hbm, ⟨37, _⟩ => ⟨S_, .f32⟩
  | .hbm, ⟨38, _⟩ => ⟨S256x64, .f32⟩
  | .hbm, ⟨39, _⟩ => ⟨S64x1024x256, .f32⟩
  | .hbm, ⟨40, _⟩ => ⟨S64x256x1024, .f32⟩
  | .hbm, ⟨41, _⟩ => ⟨S64x256x512, .f32⟩
  | .hbm, ⟨42, _⟩ => ⟨S64x256x512, .f32⟩
  | .hbm, ⟨43, _⟩ => ⟨S64x256x512, .f32⟩
  | .hbm, ⟨44, _⟩ => ⟨S64x256x512, .f32⟩
  | .hbm, ⟨45, _⟩ => ⟨S_, .f32⟩
  | .hbm, ⟨46, _⟩ => ⟨S64x256x512, .f32⟩
  | .hbm, ⟨47, _⟩ => ⟨S64x256x512, .f32⟩
  | .hbm, ⟨48, _⟩ => ⟨S_, .f32⟩
  | .hbm, ⟨49, _⟩ => ⟨S64x256x512, .f32⟩
  | .hbm, ⟨50, _⟩ => ⟨S64x256x512, .f32⟩
  | .hbm, ⟨51, _⟩ => ⟨S64x256x512, .f32⟩
  | .hbm, ⟨52, _⟩ => ⟨S64x256x512, .f32⟩
  | .hbm, ⟨53, _⟩ => ⟨S64x256x1024, .f32⟩
  | .hbm, ⟨54, _⟩ => ⟨S64x256, .f32⟩
  | .hbm, ⟨55, _⟩ => ⟨S64x256x1, .f32⟩
  | .hbm, ⟨56, _⟩ => ⟨S64x256x1024, .f32⟩
  | .hbm, ⟨57, _⟩ => ⟨S64x256x1024, .f32⟩
  | .hbm, ⟨58, _⟩ => ⟨S_, .f32⟩
  | .hbm, ⟨59, _⟩ => ⟨S256x1024, .f32⟩
  | .hbm, ⟨60, _⟩ => ⟨S32x8x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_values : Ref sig .tc := ⟨.hbm, 21, rfl⟩
abbrev main_indices : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩

abbrev nD : Nat := 1
abbrev τ : Topo := Topo.v7x

variable {F : FTy → Type} [FloatOps F]
-- ==== Proof.Scan.lean ====
/-
  The routing kernel's task as a loop over the experts. The printed body reads the 64 rows of its 16 columns of
  logits one after the other, each read followed by the same comparisons and choices; here that is one recursion,
  `scanFrom`, and the printed body is shown to be it.
-/
module

public import proofs.«01_k».proof.Defs
public import Idealize.ShloMosaic.Lib.SparseCore.Quiescent
public import Idealize.ShloMosaic.Lib.StableHlo.Run
public import Idealize.ShloMosaic.Lib.Tactic
public import proofs.«01_k».proof.Proof.Gen.KernelIdeal

@[expose] public section

noncomputable section

namespace Cert.Proof.Route

open Cert.KernelIdeal Cert.KernelIdeal.Gen
open Idealize.ShloMosaic
open Idealize.SL Idealize.SL.Sem

variable {F : FTy → Type} [FloatOps F] [Named F]

/-! ## The two best experts so far -/

section Step

variable (v m1 m2 : FVec F S16 .f32) (e i1 i2 : IVec S16 32)

/-- The best value after a row `v` is read. -/
abbrev nextM1 : FVec F S16 .f32 := select (cmpf .ogt v m1) v m1
/-- The expert it is of. -/
abbrev nextI1 : IVec S16 32 := select (cmpf .ogt v m1) e i1
/-- The second best value: the old best where the row beats it, else the row where it beats the old second. -/
abbrev nextM2 : FVec F S16 .f32 := select (cmpf .ogt v m1) m1 (select (cmpf .ogt v m2) v m2)
/-- The expert it is of. -/
abbrev nextI2 : IVec S16 32 := select (cmpf .ogt v m1) i1 (select (cmpf .ogt v m2) e i2)

end Step

/-! ## Where a task reads and writes -/

/-- The first of the 16 tokens of task `i`. -/
abbrev base (i : grid1.Coords) : BitVec 32 :=
  Scalar.muli (Scalar.addi (Scalar.muli (BitVec.ofNat 32 (i 0).val) 16#32) (BitVec.ofNat 32 (i 1).val)) 16#32

/-- The offsets of row `e` of the task's columns. -/
abbrev rowOff (i : grid1.Coords) (e : ℕ) : Fin 2 → Nat := ![e, (Scalar.indexCast (base i)).toNat]

theorem base_inb : ∀ i : grid1.Coords, k1_cond1 i = 1#1 → (Scalar.indexCast (base i)).toNat + 16 ≤ 256 := by decide +kernel

theorem rowOff_inb (i : grid1.Coords) (h : k1_cond1 i = 1#1) {e : ℕ} (he : e < 64) :
    ∀ a, rowOff i e a + S1x16.size a ≤ S64x256.size a := by
  intro a
  match a with
  | 0 => exact he
  | 1 => exact base_inb i h

/-! ## The loop -/

section Prog

variable (i : grid1.Coords) (h : k1_cond1 i = 1#1) (arg5 : Memref sig .scVector .vmem S64x256 .f32)

/-- The task's effects. -/
abbrev TE (i : grid1.Coords) := TpuEff nD τ sig (Elt F) Λ₀ (.scVector ((i 0).castLE hcore1) ((i 1).castLE hsub1))

/-- The task's columns of row `e`, of the copy of the logits it has fetched. -/
abbrev rowAt {e : ℕ} (he : e < 64) : Rect S64x256 := Rect.unit (s := S64x256) (rowOff i e) S1x16.size (rowOff_inb i h he)

/-- Rows `e, e + 1, …, 63` read in turn, `n` of them, and the four results handed on. -/
def scanFrom (k : FVec F S16 .f32 → FVec F S16 .f32 → IVec S16 32 → IVec S16 32 → Prog (TE (F := F) i) PUnit) :
    (n e : ℕ) → n + e = 64 → FVec F S16 .f32 → FVec F S16 .f32 → IVec S16 32 → IVec S16 32 → Prog (TE (F := F) i) PUnit
  | 0, _, _, m1, m2, i1, i2 => k m1 m2 i1 i2
  | n + 1, e, hn, m1, m2, i1, i2 =>
    .op (.load arg5 (rowAt i h (e := e) (by omega)).toLoadRect (View.loadsAt_vmem h_S1x16)) fun v =>
      scanFrom k n (e + 1) (by omega)
        (nextM1 (shapeCast S16 v shapeCasts_S1x16_S16) m1) (nextM2 (shapeCast S16 v shapeCasts_S1x16_S16) m1 m2)
        (nextI1 (shapeCast S16 v shapeCasts_S1x16_S16) m1 (broadcast S16 (BitVec.ofNat 32 e)) i1)
        (nextI2 (shapeCast S16 v shapeCasts_S1x16_S16) m1 m2 (broadcast S16 (BitVec.ofNat 32 e)) i1 i2)

/-- The packed pair of experts that a task stores. -/
abbrev packed (i1 i2 : IVec S16 32) : IVec S16 32 := shapeCast S16 (addi (muli i1 (broadcast S16 64#32)) i2) shapeCasts_S16_S16
/-- The weight of the best expert that a task stores. -/
abbrev weight (m1 m2 : FVec F S16 .f32) : FVec F S16 .f32 :=
  shapeCast S16 (divf (broadcast S16 (Scalar.ofBits .f32 0x3F800000#32)) (addf (broadcast S16 (Scalar.ofBits .f32 0x3F800000#32)) (exp (subf m2 m1)))) shapeCasts_S16_S16

variable (arg2 : Memref sig .scVector .hbm S64x256 .f32) (harg2 : arg2.IsWhole) (arg3 : Memref sig .scVector .hbm S256 .i32) (harg3 : arg3.IsWhole)
  (arg4 : Memref sig .scVector .hbm S256 .f32) (harg4 : arg4.IsWhole) (harg5 : arg5.IsWhole)
  (arg6 : Memref sig .scVector .vmem S16 .i32) (harg6 : arg6.IsWhole) (arg7 : Memref sig .scVector .vmem S16 .f32) (harg7 : arg7.IsWhole)
  (r0 r1 r2 : DmaSems sig S_)

/-- The task's 16 places in a result. -/
abbrev outAt (i : grid1.Coords) (h : k1_cond1 i = 1#1) : Rect S256 := Rect.unit (s := S256) (k1_off65 i) S16.size (k1_off65_inb i h)

/-- After the scan: the two results stored and copied out. -/
def finish (m1 m2 : FVec F S16 .f32) (i1 i2 : IVec S16 32) : Prog (TE (F := F) i) PUnit := do
  let _ : Vec F S16 .i32 ← Prog.lift (.load arg6 (Rect.unit (s := S16) ![0] S16.size inb_S16_S16_0).toLoadRect (View.loadsAt_vmem h_S16))
  Prog.lift (.store arg6 (Rect.unit (s := S16) ![0] S16.size inb_S16_S16_0) (packed i1 i2) Finset.univ (View.stores_vmem_bits_univ h_S16 rfl) (.inl rfl))
  let _ : Vec F S16 .f32 ← Prog.lift (.load arg7 (Rect.unit (s := S16) ![0] S16.size inb_S16_S16_0).toLoadRect (View.loadsAt_vmem h_S16))
  Prog.lift (.store arg7 (Rect.unit (s := S16) ![0] S16.size inb_S16_S16_0) (weight m1 m2) Finset.univ (View.stores_vmem_bits_univ h_S16 rfl) (.inl rfl))
  Prog.lift (.enqueueDma arg6 (.here (arg3.slice (outAt i h) (fun _ => rfl))) (.dma r1.sem) harg6.wordExact (View.wordExact_bits rfl) ⟨Or.inl rfl, trivial⟩)
  Prog.lift (.waitDma2 r1.sem arg6 (arg3.slice (outAt i h) (fun _ => rfl)) harg6.wordExact (View.wordExact_bits rfl))
  Prog.lift (.enqueueDma arg7 (.here (arg4.slice (outAt i h) (fun _ => rfl))) (.dma r2.sem) harg7.wordExact (View.wordExact_bits rfl) ⟨Or.inl rfl, trivial⟩)
  Prog.lift (.waitDma2 r2.sem arg7 (arg4.slice (outAt i h) (fun _ => rfl)) harg7.wordExact (View.wordExact_bits rfl))
  pure ⟨⟩

/-- A working task: the logits fetched, the rows scanned from the mask, the results stored and copied out. -/
def work : Prog (TE (F := F) i) PUnit := do
  Prog.lift (.enqueueDma arg2 (.here arg5) (.dma r0.sem) harg2.wordExact harg5.wordExact ⟨Or.inl rfl, trivial⟩)
  Prog.lift (.waitDma2 r0.sem arg2 arg5 harg2.wordExact harg5.wordExact)
  scanFrom i h arg5 (finish i h arg3 arg4 arg6 harg6 arg7 harg7 r1 r2) 64 0 rfl
    (broadcast S16 (Named.named κ "mask" 0xFF61B1E6#32)) (broadcast S16 (Named.named κ "mask" 0xFF61B1E6#32)) (broadcast S16 0#32) (broadcast S16 0#32)

end Prog

set_option maxRecDepth 65536 in
/-- The printed body: a task whose number is below 16 works, another does nothing. -/
theorem body_eq (i : grid1.Coords) (arg2 : Memref sig .scVector .hbm S64x256 .f32) (harg2 : arg2.IsWhole) (arg3 : Memref sig .scVector .hbm S256 .i32) (harg3 : arg3.IsWhole)
    (arg4 : Memref sig .scVector .hbm S256 .f32) (harg4 : arg4.IsWhole) (arg5 : Memref sig .scVector .vmem S64x256 .f32) (harg5 : arg5.IsWhole)
    (arg6 : Memref sig .scVector .vmem S16 .i32) (harg6 : arg6.IsWhole) (arg7 : Memref sig .scVector .vmem S16 .f32) (harg7 : arg7.IsWhole)
    (r0 r1 r2 : DmaSems sig S_) (h : k1_cond1 i = 1#1) :
    cc1__sc_route_body (F := F) i arg2 harg2 arg3 harg3 arg4 harg4 arg5 harg5 arg6 harg6 arg7 harg7 r0 r1 r2
      = (work i h arg5 arg2 harg2 arg3 arg4 harg5 arg6 harg6 arg7 harg7 r0 r1 r2 >>= fun _ => pure ⟨⟩) := by
  unfold cc1__sc_route_body
  rw [dif_pos h]
  sl_kernel_rfl

/-- A task whose number is 16 or more does nothing. -/
theorem body_idle (i : grid1.Coords) (arg2 : Memref sig .scVector .hbm S64x256 .f32) (harg2 : arg2.IsWhole) (arg3 : Memref sig .scVector .hbm S256 .i32) (harg3 : arg3.IsWhole)
    (arg4 : Memref sig .scVector .hbm S256 .f32) (harg4 : arg4.IsWhole) (arg5 : Memref sig .scVector .vmem S64x256 .f32) (harg5 : arg5.IsWhole)
    (arg6 : Memref sig .scVector .vmem S16 .i32) (harg6 : arg6.IsWhole) (arg7 : Memref sig .scVector .vmem S16 .f32) (harg7 : arg7.IsWhole)
    (r0 r1 r2 : DmaSems sig S_) (h : ¬ k1_cond1 i = 1#1) :
    cc1__sc_route_body (F := F) i arg2 harg2 arg3 harg3 arg4 harg4 arg5 harg5 arg6 harg6 arg7 harg7 r0 r1 r2 = pure ⟨⟩ := by
  unfold cc1__sc_route_body
  rw [dif_neg h]

end Cert.Proof.Route

end
-- ==== Proof.Top.lean ====
/-
  The two best experts of a token, as the routing kernel finds them: the 64 logits of the token read in turn from a
  mask below them all, the best value and expert and the second best kept. Here for one token, at any float values.
-/
module

public import proofs.«01_k».proof.Proof.Scan
public import Idealize.ShloMosaic.Lib.ValueIdx

@[expose] public section

noncomputable section

namespace Cert.Proof.Route

open Cert.KernelIdeal Cert.KernelIdeal.Gen
open Idealize.ShloMosaic Idealize.ShloMosaic.ValueIdx

variable {F : FTy → Type}

/-- The best and the second best so far: values and experts. -/
structure Top (F : FTy → Type) where
  m1 : F .f32
  m2 : F .f32
  i1 : BitVec 32
  i2 : BitVec 32

variable [FloatOps F] [Named F]

/-- Before any expert. -/
def Top.start : Top F := ⟨Named.named κ "mask" 0xFF61B1E6#32, Named.named κ "mask" 0xFF61B1E6#32, 0#32, 0#32⟩

/-- After expert `e`, whose logit is `v`. -/
def Top.next (s : Top F) (v : F .f32) (e : BitVec 32) : Top F where
  m1 := Scalar.select (FloatOps.cmpf .ogt v s.m1) v s.m1
  m2 := Scalar.select (FloatOps.cmpf .ogt v s.m1) s.m1 (Scalar.select (FloatOps.cmpf .ogt v s.m2) v s.m2)
  i1 := Scalar.select (FloatOps.cmpf .ogt v s.m1) e s.i1
  i2 := Scalar.select (FloatOps.cmpf .ogt v s.m1) s.i1 (Scalar.select (FloatOps.cmpf .ogt v s.m2) e s.i2)

/-- After the experts below `n` of a token whose logits are `col`. -/
def topTo (col : ℕ → F .f32) : ℕ → Top F
  | 0 => Top.start
  | n + 1 => (topTo col n).next (col n) (BitVec.ofNat 32 n)

/-- The logits of token `t`, read off the transposed array of them all. -/
def colOf (X : S64x256.Idx → F .f32) (t : Fin 256) : ℕ → F .f32 := fun e => X (ix2 (Fin.ofNat 64 e) t)

/-- The two best experts of token `t`. -/
def topOf (X : S64x256.Idx → F .f32) (t : Fin 256) : Top F := topTo (colOf X t) 64

/-- The packed pair of experts, of every token. -/
def pairs (X : S64x256.Idx → F .f32) : S256.Idx → BitVec 32 :=
  fun t => IntOp.addi (IntOp.muli (topOf X (t 0)).i1 64#32) (topOf X (t 0)).i2

/-- The weight of the best expert, of every token. -/
def weights (X : S64x256.Idx → F .f32) : S256.Idx → F .f32 :=
  fun t => FloatOps.divf (Scalar.ofBits .f32 0x3F800000#32)
    (FloatOps.addf (Scalar.ofBits .f32 0x3F800000#32) (FloatOps.exp (FloatOps.subf (topOf X (t 0)).m2 (topOf X (t 0)).m1)))

/-! ## A task's sixteen lanes -/

/-- The token of lane `l` of block `j`. -/
def tok (j : Fin 16) (l : S16.Idx) : Fin 256 := ⟨16 * j.val + (l 0).val, by have := j.isLt; have : (l 0).val < 16 := (l 0).isLt; omega⟩

/-- The place in a result of lane `l` of block `j`. -/
abbrev place (j : Fin 16) (l : S16.Idx) : S256.Idx := ix1 (tok j l)

variable (X : S64x256.Idx → F .f32) (j : Fin 16) (n : ℕ)

abbrev lanesM1 : FVec F S16 .f32 := fun l => (topTo (colOf X (tok j l)) n).m1
abbrev lanesM2 : FVec F S16 .f32 := fun l => (topTo (colOf X (tok j l)) n).m2
abbrev lanesI1 : IVec S16 32 := fun l => (topTo (colOf X (tok j l)) n).i1
abbrev lanesI2 : IVec S16 32 := fun l => (topTo (colOf X (tok j l)) n).i2
/-- Row `n` of the logits at the block's tokens. -/
abbrev laneRow : FVec F S16 .f32 := fun l => colOf X (tok j l) n

theorem shapeCast_S16 {α : Type} (x : S16.Idx → α) : shapeCast S16 x shapeCasts_S16_S16 = x := by
  funext l
  unfold shapeCast
  congr 1
  exact Shape.reshapeEquiv_self _ _

theorem packed_lanes : packed (lanesI1 X j 64) (lanesI2 X j 64) = fun l => pairs X (place j l) := by
  unfold packed; rw [shapeCast_S16]; rfl
theorem weight_lanes : weight (lanesM1 X j 64) (lanesM2 X j 64) = fun l => weights X (place j l) := by
  unfold weight; rw [shapeCast_S16]; rfl

end Cert.Proof.Route

end
-- ==== Proof.Setup.lean ====
/-
  The program as the launch theorem sees it, the ghost state of its handshakes and pipelines, and what the one
  SparseCore call carries: the logits whole to SparseCore 0, from there a read share to each of its sixteen tasks with
  the task's sixteen places of the two results; back come the two results at the pairs and weights of those logits.
  SparseCore 1's tasks do nothing and are handed nothing.
-/
module

public import proofs.«01_k».proof.Proof.Top
public import Idealize.ShloMosaic.Lib.Pipeline.Kit
public import Idealize.ShloMosaic.Lib.Pipeline.Regions

@[expose] public section

noncomputable section

namespace Cert.Proof.Route

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelines' rounds, the transfers' counters -/

abbrev UH : Type := URounds (GSem nD τ sig) ℕ
abbrev UP : Type := URounds (GSem nD τ sig) Unit
abbrev UU : Type := UH × UP × Counters

local notation "𝕄" => MT nD τ sig (HIx 1) (Elt F) ℕ UU ℕ

abbrev EH : Emb UH (MT nD τ sig (HIx 1) (Elt F) ℕ UU ℕ) := embL
/-- The pipelines' rounds: the middle factor. -/
def EP : Emb UP (MT nD τ sig (HIx 1) (Elt F) ℕ UU ℕ) := (Emb.inl : Emb UP (UP × Counters)).trans embR
instance EP_landsIn : (EP (F := F)).LandsIn (upEmb : UEmb _ 𝕄) := by unfold EP embR; infer_instance

/-! ## The arrays of the call -/

variable (m : (ℓ : Loc nD τ sig) → Buf (Elt F) ℓ) (ρ : Dev nD → PrngReg)

/-- The logits, the pairs and the weights, as locations of device `d`. -/
abbrev lLoc (d : Dev nD) : Loc nD τ sig := (SparseCore.T d).loc main_v1
abbrev pLoc (d : Dev nD) : Loc nD τ sig := (SparseCore.T d).loc main_v2_0
abbrev wLoc (d : Dev nD) : Loc nD τ sig := (SparseCore.T d).loc main_v2_1

local notation "lV" => (Memref.whole Cert.KernelIdeal.main_v1_scv : Memref Cert.KernelIdeal.sig Kind.scVector Space.hbm Cert.KernelIdeal.S64x256 EltTy.f32)
local notation "pV" => (Memref.whole Cert.KernelIdeal.main_v2_0_scv : Memref Cert.KernelIdeal.sig Kind.scVector Space.hbm Cert.KernelIdeal.S256 EltTy.i32)
local notation "wV" => (Memref.whole Cert.KernelIdeal.main_v2_1_scv : Memref Cert.KernelIdeal.sig Kind.scVector Space.hbm Cert.KernelIdeal.S256 EltTy.f32)
local notation "sL" => (Memref.whole Cert.KernelIdeal.cc1_scratch0 : Memref Cert.KernelIdeal.sig Kind.scVector Space.vmem Cert.KernelIdeal.S64x256 EltTy.f32)
local notation "sP" => (Memref.whole Cert.KernelIdeal.cc1_scratch1 : Memref Cert.KernelIdeal.sig Kind.scVector Space.vmem Cert.KernelIdeal.S16 EltTy.i32)
local notation "sW" => (Memref.whole Cert.KernelIdeal.cc1_scratch2 : Memref Cert.KernelIdeal.sig Kind.scVector Space.vmem Cert.KernelIdeal.S16 EltTy.f32)

theorem hdiv : 16 ∣ S256.size 0 := ⟨16, rfl⟩
/-- Block `j` of a result: the sixteen places of one task. -/
abbrev blk (j : Fin 16) : Rect S256 := Rect.part (s := S256) (a₀ := 0) hdiv j
abbrev blkSet (j : Fin 16) : Finset S256.Idx := ((pV).view.slice (blk j)).set

/-! ## What the handshakes carry -/

variable (X : Dev nD → (S64x256.Idx → F .f32))

/-- The read share of the logits that task `j` is handed. -/
abbrev lShare (j : Fin 16) : PosShare TreeShare := Transfers.dealOf fullShare (Finset.univ : Finset (Fin 16)) j

abbrev lPts (d : Dev nD) : sProp 𝕄 := lLoc d ↦{fullShare} X d
abbrev pPts (d : Dev nD) (f : Buf (Elt F) (pLoc d)) : sProp 𝕄 := pLoc d ↦{fullShare} f
abbrev wPts (d : Dev nD) (f : Buf (Elt F) (wLoc d)) : sProp 𝕄 := wLoc d ↦{fullShare} f
abbrev lShPts (d : Dev nD) (j : Fin 16) : sProp 𝕄 := lLoc d ↦{lShare j} X d
abbrev pBlkPts (d : Dev nD) (j : Fin 16) (f : Buf (Elt F) (pLoc d)) : sProp 𝕄 := pLoc d ↦[blkSet j]{fullShare} f
abbrev wBlkPts (d : Dev nD) (j : Fin 16) (f : Buf (Elt F) (wLoc d)) : sProp 𝕄 := wLoc d ↦[blkSet j]{fullShare} f

/-- The whole call, before and after, and one task's part of it. -/
abbrev callPts (d : Dev nD) (f : Buf (Elt F) (pLoc d)) (g : Buf (Elt F) (wLoc d)) : sProp 𝕄 := iprop(lPts X d ∗ pPts d f ∗ wPts d g)
abbrev taskPts (d : Dev nD) (j : Fin 16) (f : Buf (Elt F) (pLoc d)) (g : Buf (Elt F) (wLoc d)) : sProp 𝕄 :=
  iprop(lShPts X d j ∗ pBlkPts d j f ∗ wBlkPts d j g)

/-- Only SparseCore 0 is handed anything. -/
def onZero (c : Fin 2) (R : sProp 𝕄) : sProp 𝕄 := match c with | 0 => R | 1 => iprop(emp)

theorem onZero_zero (R : sProp 𝕄) : onZero 0 R = R := rfl
theorem onZero_one (R : sProp 𝕄) : onZero 1 R = iprop(emp) := rfl

instance onZero_storable (c : Fin 2) (R : sProp 𝕄) [h : BI.Storable (upEmb : UEmb _ 𝕄) R] : BI.Storable (upEmb : UEmb _ 𝕄) (onZero c R) := by
  match c with
  | 0 => exact h
  | 1 => exact (inferInstance : BI.Storable (upEmb : UEmb _ 𝕄) iprop(emp))

def P : (K (F := F)).Pay (nD := nD) (Val := Elt F) (Name := ℕ) (U := UU) where
  st := fun q d c => match q with | 0 => onZero (Fin.cast nCore_zero c) (callPts X d (m (pLoc d)) (m (wLoc d)))
  dn := fun q d c => match q with | 0 => onZero (Fin.cast nCore_zero c) (callPts X d (pairs (X d)) (weights (X d)))
  go := fun q d c i => match q with
    | 0 => onZero (Fin.cast nCore_zero c) (taskPts X d (Fin.cast nSub_zero i) (m (pLoc d)) (m (wLoc d)))
  td := fun q d c i => match q with
    | 0 => onZero (Fin.cast nCore_zero c) (taskPts X d (Fin.cast nSub_zero i) (pairs (X d)) (weights (X d)))
  x := fun _ _ => iprop(emp)

instance P_storable : (P (F := F) m X).IsStorable where
  st q d c := match q with
    | 0 => (inferInstance : BI.Storable (upEmb : UEmb _ 𝕄) (onZero (Fin.cast nCore_zero c) (callPts X d (m (pLoc d)) (m (wLoc d)))))
  dn q d c := match q with
    | 0 => (inferInstance : BI.Storable (upEmb : UEmb _ 𝕄) (onZero (Fin.cast nCore_zero c) (callPts X d (pairs (X d)) (weights (X d)))))
  go q d c i := match q with
    | 0 => (inferInstance : BI.Storable (upEmb : UEmb _ 𝕄) (onZero (Fin.cast nCore_zero c) (taskPts X d (Fin.cast nSub_zero i) (m (pLoc d)) (m (wLoc d)))))
  td q d c i := match q with
    | 0 => (inferInstance : BI.Storable (upEmb : UEmb _ 𝕄) (onZero (Fin.cast nCore_zero c) (taskPts X d (Fin.cast nSub_zero i) (pairs (X d)) (weights (X d)))))

/-! ## The blocks split and join -/

theorem blkSet_eq (j : Fin 16) : blkSet j = (blk j).set := by
  show ((View.whole (main_v2_0_scv : Ref sig .scVector)).slice (blk j)).set = _
  rw [View.set_slice]; exact Finset.map_refl
theorem blks_disjoint : ∀ i ∈ (Finset.univ : Finset (Fin 16)), ∀ j ∈ (Finset.univ : Finset (Fin 16)), i ≠ j → Disjoint (blkSet i) (blkSet j) :=
  fun i _ j _ h => by rw [blkSet_eq, blkSet_eq]; exact Rect.part_disjoint hdiv h
theorem blks_cover : (Finset.univ : Finset (Fin 16)).biUnion blkSet = Finset.univ :=
  (Finset.biUnion_congr rfl fun i _ => blkSet_eq i).trans (Rect.biUnion_part hdiv)

theorem pPts_blks (d : Dev nD) (f : Buf (Elt F) (pLoc d)) : (pPts d f : sProp 𝕄) = bigSep Finset.univ fun j : Fin 16 => pBlkPts d j f := by
  unfold pBlkPts
  rw [← pointsTo_biUnion Finset.univ (ℓ := pLoc d) blkSet blks_disjoint, blks_cover]; try rfl
theorem wPts_blks (d : Dev nD) (f : Buf (Elt F) (wLoc d)) : (wPts d f : sProp 𝕄) = bigSep Finset.univ fun j : Fin 16 => wBlkPts d j f := by
  unfold wBlkPts
  rw [← pointsTo_biUnion Finset.univ (ℓ := wLoc d) blkSet blks_disjoint, blks_cover]; try rfl
theorem lPts_shares (d : Dev nD) : (lPts X d : sProp 𝕄) = bigSep Finset.univ fun j : Fin 16 => lShPts X d j :=
  Transfers.pointsTo_deal (Finset.univ : Finset (Fin 16)) ⟨0, Finset.mem_univ _⟩ fullShare

/-- The call's arrays are the sixteen tasks' parts of them. -/
theorem callPts_tasks (d : Dev nD) (f : Buf (Elt F) (pLoc d)) (g : Buf (Elt F) (wLoc d)) :
    (callPts X d f g : sProp 𝕄) = bigSep Finset.univ fun j : Fin 16 => taskPts X d j f g := by
  unfold callPts taskPts
  rw [lPts_shares, pPts_blks, wPts_blks, bigSep_sep', bigSep_sep']

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_emp' {I : Type} (s : Finset I) : (bigSep s fun _ => iprop(emp)) = (iprop(emp) : sProp 𝕄) := bigSep_emp_const s

/-- On SparseCore 0 as on SparseCore 1 the call's part is its tasks' parts. -/
theorem onZero_tasks (c : Fin 2) (d : Dev nD) (f : Buf (Elt F) (pLoc d)) (g : Buf (Elt F) (wLoc d)) :
    (onZero c (callPts X d f g) : sProp 𝕄)
      = bigSep Finset.univ fun i : Fin ((K (F := F)).nSub 0) => onZero c (taskPts X d (Fin.cast nSub_zero i) f g) := by
  match c with
  | 0 => exact (callPts_tasks X d f g).trans (bigSep_tasks (F := F) fun j => taskPts X d j f g).symm
  | 1 => exact (bigSep_emp' _).symm

theorem vecSplit : (K (F := F)).VecSplit' (P m X) 0 := by
  intro d c
  show onZero (Fin.cast nCore_zero c) (callPts X d (m (pLoc d)) (m (wLoc d))) ⊢ |={Set.univ}=> iprop(
      (bigSep Finset.univ fun i : Fin ((K (F := F)).nSub 0) => onZero (Fin.cast nCore_zero c) (taskPts X d (Fin.cast nSub_zero i) (m (pLoc d)) (m (wLoc d))))
      ∗ ((bigSep Finset.univ fun i : Fin ((K (F := F)).nSub 0) => onZero (Fin.cast nCore_zero c) (taskPts X d (Fin.cast nSub_zero i) (pairs (X d)) (weights (X d))))
          -∗ onZero (Fin.cast nCore_zero c) (callPts X d (pairs (X d)) (weights (X d)))))
  rw [← onZero_tasks, ← onZero_tasks]
  iintro H; imodintro
  isplitl [H]; · iexact H
  iintro H; iexact H

end Cert.Proof.Route

end
-- ==== Proof.Region.lean ====
/-
  One TensorCore pipeline's region inside a program that also calls the SparseCores. The thread state across it is every
  unscoped buffer of the TensorCore at a valuation, and what the core owes with the bound its waits have kept to: the
  handshakes' rule reads that bound at the next call, so the region records it point by point and hands it back.
-/
module

public import proofs.«01_k».proof.Proof.Setup
public import Idealize.ShloMosaic.Lib.Pipeline.RegionArraysS

@[expose] public section

noncomputable section

namespace Cert.Proof.Route

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat BodyObligationLoose PLaunchFacts RegionSeg pin ucRefs arrRef arrRefs afterRegion scopedRest)

variable {F : FTy → Type} [FloatOps F] [Named F]

local notation "𝕄" => MT nD τ sig (HIx 1) (Elt F) ℕ UU ℕ

/-- The pipelines read no prefetched tables. -/
def adm : (p : Fin 2) → (pcfgs (F := F) p).Adm := fun p => (cfgs p).toPCfg_adm

/-- The waits of core `c` at levels up to `b`. -/
def below (c : Dev nD) (b : ℕ) : Set (SemLoc sig × HIx 1) := {p | (K (F := F)).lev (T c, p.1) p.2 ≤ b}

/-- What the core owes before call `n`, its waits so far at levels up to `b`. -/
abbrev owing (n b : ℕ) (c : Dev nD) : sProp 𝕄 :=
  iprop(∃ W, ⌜(K (F := F)).WBelow (T c) W b⌝ ∗ owes (c : Thread nD τ) ((K (F := F)).Otc (N := 1) c n) W)

theorem Otc_none (c : Dev nD) (n : ℕ) (g : GSem nD τ sig) : (K (F := F)).Otc (N := 1) c n g none = 0 := by
  by_contra h
  have := (K (F := F)).lev_of_Otc_pos (Nat.pos_of_ne_zero h)
  rw [SparseCore.Cfg.lev_none] at this
  omega

variable (pdats : (p : Fin 2) → (c : Dev nD) → Dat τ (Elt F) (HIx 1) ℕ UU ℕ (pin (pcfgs (F := F)) adm p) c)

/-- The region of pipeline `p`, entered from the unscoped buffers at `V c` and left with the pipeline's arrays at its
    exit contents. -/
def region (p : Fin 2) (n b : ℕ) (kit : PLaunchFacts (nD := nD) (τ := τ) (pcfgs (F := F)) p) (hK : (pcfgs (F := F) p).pre.K = 0)
    (hbody : ∀ c, BodyObligationLoose (pdats p c) defs₀ 𝒱₀ none Set.univ)
    (howed : ∀ c t, (pdats p c).owed t = (K (F := F)).Otc (N := 1) c n)
    (hrec : ∀ c t, (pdats p c).recorded t = below (F := F) c b)
    (hshare : ∀ c w, (pdats p c).share w = fullShare)
    (hΦ : ∀ c t, (pdats p c).Φ t = scopedRest (pin (pcfgs (F := F)) adm p).spec c)
    (Vc : Dev nD → Valuation τ sig (Elt F))
    (hV : ∀ c w, (pdats p c).arrAt w 0 = Vc c (Proc.devRef .tc (arrRef (pin (pcfgs (F := F)) adm p).spec w))) :
    RegionSeg (pcfgs (F := F)) adm pdats none defs₀ 𝒱₀ (K (F := F)).L (K (F := F)).lev p where
  win := kit.win.to₀
  block_pos := kit.block_pos
  stage_whole := kit.stage_whole
  K := PEmpty
  osem k := k.elim
  ho := Pipeline.OwnSemFacts.none _
  hbody := hbody
  hwaits c := Pipeline.cellsWaits_of_cut (pin (pcfgs (F := F)) adm) pdats none p c 0 _ (howed c)
    (fun w s => Finset.mem_univ _) (fun w s => le_of_eq ((K (F := F)).lev_none _)) (fun g i hg => by
      match i with
      | none => exact absurd (Otc_none (F := F) c n g) (Nat.pos_iff_ne_zero.mp hg)
      | some q => exact ⟨Finset.mem_univ _, (K (F := F)).lev_some_pos g q⟩)
  pre c := iprop(StableHlo.held (c.tc : Thread nD τ) (ucRefs τ sig) (Vc c) ∗ owing n b c)
  post c := iprop(StableHlo.held (c.tc : Thread nD τ) (ucRefs τ sig) (afterRegion (pdats p c) (Vc c)) ∗ owing n b c)
  X _ := iprop(emp)
  Y _ := iprop(emp)
  Z c := StableHlo.held (c.tc : Thread nD τ) (ucRefs τ sig \ arrRefs (pcfgs (F := F) p).spec) (Vc c)
  hentry c := by
    have hsub := Pipeline.arrRefs_sub_ucRefs (τ := τ) (pcfgs (F := F) p).spec kit.win.to₀.arr_unscoped
    rw [StableHlo.held_sub_split (c.tc : Thread nD τ) hsub (Vc c), Pipeline.ownSems0_none, Pipeline.prefHeld_of_none _ hK,
      Pipeline.arrays_held (pcfgs (F := F)) adm pdats p kit c (hshare c) ((pdats p c).arrAt · 0) (Vc c) (hV c)]
    iintro ⟨⟨⟨Ha, Hu⟩, HO⟩, -, -⟩
    imodintro
    isplitl [Ha]; · iexact Ha
    isplitr; · iempintro
    isplitl [HO]
    · unfold Dat.owesAt Pipeline.owesWithin Dat.bound
      rw [howed c 0, hrec c 0]
      icases HO with ⟨%W, %hW, HO⟩; iexists W; isplitr; · ipureintro; exact fun q hq => Or.inl (hW q hq)
      iexact HO
    isplitr; · iempintro
    iexact Hu
  hin c := by
    rw [hΦ]
    iintro ⟨-, -, Hr⟩; iexact Hr
  hout c := by
    rw [hΦ, Pipeline.ownSems0_none]
    iintro Hr
    isplitr; · iempintro
    isplitr; · iempintro
    iexact Hr
  hexit c := by
    have hsub := Pipeline.arrRefs_sub_ucRefs (τ := τ) (pcfgs (F := F) p).spec kit.win.to₀.arr_unscoped
    rw [StableHlo.held_sub_split (c.tc : Thread nD τ) hsub (afterRegion (pdats p c) (Vc c)),
      Pipeline.arrays_held (pcfgs (F := F)) adm pdats p kit c (hshare c) _ (afterRegion (pdats p c) (Vc c))
        (fun w => (Pipeline.afterRegion_arr (pdats p c) (Vc c) kit.win.arr_inj w).symm),
      StableHlo.held_congr (c.tc : Thread nD τ) (S := ucRefs τ sig \ arrRefs (pcfgs (F := F) p).spec)
        (V := afterRegion (pdats p c) (Vc c)) (V' := Vc c) (Pipeline.afterRegion_off (pdats p c) (Vc c) _)]
    iintro ⟨Ha, HO, -, Hu⟩
    imodintro
    isplitl [Ha Hu]; · isplitl [Ha] <;> iassumption
    unfold Dat.owesAt Pipeline.owesWithin Dat.bound
    rw [howed c (Fin.last _), hrec c (Fin.last _)]
    icases HO with ⟨%W, %hW, HO⟩; iexists W; isplitr
    · ipureintro
      intro q hq
      rcases hW hq with h | ⟨w, s, rfl⟩
      · exact h
      · exact (le_of_eq ((K (F := F)).lev_none _)).trans (Nat.zero_le b)
    iexact HO

end Cert.Proof.Route

end
-- ==== Proof.Logits.lean ====
/-
  The first TensorCore call: the logits. Its body, at whatever its three staging buffers hold, leaves the transposed
  product of the two operands in the third; its one point stages the operands whole and writes the result whole.
-/
module

public import proofs.«01_k».proof.Proof.Region
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Value
public import Idealize.ShloMosaic.Lib.Pipeline.FrameBody

@[expose] public section

noncomputable section

namespace Cert.Proof.Route

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat BodyObligation BodyObligationLoose PLaunchFacts RegionSeg pin ucRefs arrRef arrRefs afterRegion scopedRest)

variable {F : FTy → Type} [FloatOps F] [Named F]

local notation "𝕄" => MT nD τ sig (HIx 1) (Elt F) ℕ UU ℕ

theorem zeros2 : (![0, 0] : Fin 2 → ℕ) = fun _ => 0 := by funext a; fin_cases a <;> rfl

/-- A store of a whole buffer, the last of several, leaves its payload. -/
theorem read_whole_store {S : Shape} {κ : Kind} {sp : Space} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  subst h
  funext y
  exact View.read_writes_cons_hit v f (Rect.whole S) w L y y (Rect.emb_whole_apply _ _)

/-- The body's run: the operands' buffers as they were, the result's at the transposed product. -/
theorem logits_run (c : Dev nD) (M0 : Memref sig .tc .vmem S256x1024 .f32) (h0 : M0.IsWhole) (M1 : Memref sig .tc .vmem S64x1024 .f32) (h1 : M1.IsWhole)
    (M2 : Memref sig .tc .vmem S64x256 .f32) (h2 : M2.IsWhole) (x : Vec F S256x1024 .f32) (w : Vec F S64x1024 .f32) (o : Vec F S64x256 .f32)
    (Q : PUnit → sProp 𝕄) :
    iprop(owns c M0 fullShare x ∗ owns c M1 fullShare w ∗ owns c M2 fullShare o
        ∗ (iprop(owns c M0 fullShare x ∗ owns c M1 fullShare w ∗ owns c M2 fullShare (k0_pay1 x w)) -∗ Q ⟨⟩))
      ⊢ wp frame (wpE (defs₀ (F := F)) 𝒱₀ (c : Thread nD τ) none) Set.univ (cc0__logits_body M0 h0 M1 h1 M2 h2) Q := by
  rw [cc0__logits_body_eq_skeleton]
  unfold cc0__logits_body_skel owns
  iintro ⟨⟨%f0, %hf0, H0⟩, ⟨%f1, %hf1, H1⟩, ⟨%f2, %hf2, H2⟩, Hk⟩
  sl_exec
  sl_step
  iapply Hk
  isplitl [H0]; · iexists f0; isplitr; · ipureintro; exact hf0
                  iexact H0
  isplitl [H1]; · iexists f1; isplitr; · ipureintro; exact hf1
                  iexact H1
  iexists _; isplitr; swap; · iexact H2
  ipureintro
  rw [read_whole_store M2.view f2 zeros2, View.readAt_eq_ld, View.readAt_eq_ld, View.ld_unit_zero (S := S256x1024) zeros2,
    View.ld_unit_zero (S := S64x1024) zeros2, hf0, hf1]

/-! ## The region's proof data -/

variable (Vc : Dev nD → Valuation τ sig (Elt F)) (b : ℕ)

/-- The two operands as the valuation holds them, and their transposed product. -/
abbrev tokens (c : Dev nD) : S256x1024.Idx → F .f32 := Vc c (Proc.devRef .tc main_v0)
abbrev router (c : Dev nD) : S64x1024.Idx → F .f32 := Vc c (Proc.devRef .tc main_arg1)
abbrev logits (c : Dev nD) : S64x256.Idx → F .f32 := k0_pay1 (tokens Vc c) (router Vc c)

/-- Entered before the SparseCore call, the arrays at the valuation; after the body the operands' buffers as staged, the
    result's at the product. -/
def dat0 (c : Dev nD) : Dat τ (Elt F) (HIx 1) ℕ UU ℕ cfg0 c where
  A w := Vc c (Proc.devRef .tc (arrRef spec0 w))
  after w _ := match w with
    | ⟨0, _⟩ => tokens Vc c
    | ⟨1, _⟩ => router Vc c
    | ⟨2, _⟩ => logits Vc c
  Φ _ := scopedRest spec0 c
  q _ := fullShare
  owed _ := (K (F := F)).Otc (N := 1) c 0
  recorded _ := below (F := F) c b

theorem before0_0 (c : Dev nD) (d : (cfg0.win 0).block.Idx → Elt F (cfg0.win 0).elt) : (dat0 Vc b c).before 0 t0_0 d = tokens Vc c := by
  rw [(dat0 Vc b c).before_fetched 0 t0_0 (fetch0_0 _)]
  have hz : (fun a => win0_0.index t0_0 a * main_v0.ty.shape.size a) = fun _ => 0 := by funext a; fin_cases a <;> decide
  exact Memref.read_access_unit_zero (Elt F) main_v0 hz (fun a => by rw [congrFun hz a]; simp) (Vc c (Proc.devRef .tc main_v0))
theorem before0_1 (c : Dev nD) (d : (cfg0.win 1).block.Idx → Elt F (cfg0.win 1).elt) : (dat0 Vc b c).before 1 t0_0 d = router Vc c := by
  rw [(dat0 Vc b c).before_fetched 1 t0_0 (fetch0_1 _)]
  have hz : (fun a => win0_1.index t0_0 a * main_arg1.ty.shape.size a) = fun _ => 0 := by funext a; fin_cases a <;> decide
  exact Memref.read_access_unit_zero (Elt F) main_arg1 hz (fun a => by rw [congrFun hz a]; simp) (Vc c (Proc.devRef .tc main_arg1))

theorem body0 (c : Dev nD) : BodyObligation (dat0 Vc b c) (defs₀ (F := F)) 𝒱₀ none Set.univ := fun t => by
  obtain rfl := fin_N0 t
  rw [bigSep_W0, bigSep_W0]
  rw [show (dat0 Vc b c).Φ t0_0.castSucc = scopedRest spec0 c from rfl, show (dat0 Vc b c).Φ t0_0.succ = scopedRest spec0 c from rfl,
    show (dat0 Vc b c).owesAt none t0_0.succ = (dat0 Vc b c).owesAt none t0_0.castSucc from rfl]
  iintro ⟨HΦ, Howes, ⟨%d0, H0⟩, ⟨%d1, H1⟩, ⟨%d2, H2⟩⟩
  rw [before0_0, before0_1]
  iapply (logits_run c (win0_0.stage (cfg0.slots t0_0 0)) (hstage0_0 0) (win0_1.stage (cfg0.slots t0_0 1)) (hstage0_1 0)
    (win0_2.stage (cfg0.slots t0_0 2)) (hstage0_2 0) (tokens Vc c) (router Vc c) _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-- The result's array at the end: its one block is the array. -/
theorem final0 (c : Dev nD) : (dat0 Vc b c).arrAt 2 cfg0.N = logits Vc c := by
  refine (dat0 Vc b c).arrAt_eq_of_cover 2 (logits Vc c) (fun t _ => ?_) fun i => ⟨t0_0, flush0_2 _, ?_⟩
  · obtain rfl := fin_N0 t
    have hz : (fun a => win0_2.index t0_0 a * main_v1.ty.shape.size a) = fun _ => 0 := by funext a; fin_cases a <;> decide
    exact (Memref.read_access_unit_zero (Elt F) main_v1 hz (fun a => by rw [congrFun hz a]; simp) (logits Vc c)).symm
  · show i ∈ ((View.whole main_v1).slice (win0_2.rect t0_0)).set
    rw [View.set_slice_whole, Rect.mem_set_unit]
    intro a
    have h0 : (i 0 : Nat) < 64 := (i 0).isLt
    have h1 : (i 1 : Nat) < 256 := (i 1).isLt
    match a with
    | ⟨0, _⟩ => exact ⟨Nat.zero_le _, h0⟩
    | ⟨1, _⟩ => exact ⟨Nat.zero_le _, h1⟩

end Cert.Proof.Route

end
-- ==== Proof.Moe.lean ====
/-
  The second TensorCore call: the experts. Each of its 32 points takes two experts' weights; the body decodes each
  token's two experts, and adds to the result's buffer, which all points share, each expert's output weighted by what
  the router gave it. The first point starts the buffer at zero, the last writes it out.
-/
module

public import proofs.«01_k».proof.Proof.Logits

@[expose] public section

noncomputable section

namespace Cert.Proof.Route

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat BodyObligation BodyObligationLoose PLaunchFacts RegionSeg pin ucRefs arrRef arrRefs afterRegion scopedRest)

variable {F : FTy → Type} [FloatOps F] [Named F]

local notation "𝕄" => MT nD τ sig (HIx 1) (Elt F) ℕ UU ℕ

/-! ## What one point does -/

/-- Expert `j` of the two a point holds. -/
abbrev upOf0 (u : Vec F S2x1024x1024 .f32) : Vec F S1x1024x1024 .f32 := View.ld (Val := Elt F) (e' := EltTy.f32) u (Rect.unit (s := S2x1024x1024) ![0, 0, 0] S1x1024x1024.size inb_S2x1024x1024_S1x1024x1024_0_0_0)
abbrev upOf1 (u : Vec F S2x1024x1024 .f32) : Vec F S1x1024x1024 .f32 := View.ld (Val := Elt F) (e' := EltTy.f32) u (Rect.unit (s := S2x1024x1024) ![1, 0, 0] S1x1024x1024.size inb_S2x1024x1024_S1x1024x1024_1_0_0)
abbrev downOf0 (w : Vec F S2x512x1024 .f32) : Vec F S1x512x1024 .f32 := View.ld (Val := Elt F) (e' := EltTy.f32) w (Rect.unit (s := S2x512x1024) ![0, 0, 0] S1x512x1024.size inb_S2x512x1024_S1x512x1024_0_0_0)
abbrev downOf1 (w : Vec F S2x512x1024 .f32) : Vec F S1x512x1024 .f32 := View.ld (Val := Elt F) (e' := EltTy.f32) w (Rect.unit (s := S2x512x1024) ![1, 0, 0] S1x512x1024.size inb_S2x512x1024_S1x512x1024_1_0_0)

/-- The result's buffer after point `a`, from what it held: both experts' weighted outputs added to it. -/
def moeStep (a : BitVec 32) (pk : Vec F S256x1 .i32) (w : Vec F S256x1 .f32) (x : Vec F S256x1024 .f32) (u : Vec F S2x1024x1024 .f32)
    (dn : Vec F S2x512x1024 .f32) (o : Vec F S256x1024 .f32) : Vec F S256x1024 .f32 :=
  k2_pay1 (k2_pay5 w) (k2_pay6 (F := F) pk) (k2_pay7 (F := F) pk)
    (k2_pay9 (k2_pay3 x) (k2_pay5 w) (k2_pay6 (F := F) pk) (k2_pay7 (F := F) pk) k2_pay8 (Scalar.muli a 2#32) 0#32 (upOf0 u) (downOf0 dn))
    (Scalar.addi (Scalar.muli a 2#32) 1#32) (k2_pay10 (k2_pay3 x) (upOf1 u)) (downOf1 dn) o

/-- The first point's test of its index. -/
abbrev isFirst (i : grid2.Coords) : Prop :=
  Scalar.cmpi .ne (Scalar.extui (Scalar.cmpi .eq (BitVec.ofNat 32 (i 0).val) 0#32)) 0#32 = 1#1

variable (c : Dev nD) (i : grid2.Coords) (M1 : Memref sig .tc .vmem S256x1 .i32) (h1 : M1.IsWhole) (M2 : Memref sig .tc .vmem S256x1 .f32) (h2 : M2.IsWhole)
    (M3 : Memref sig .tc .vmem S256x1024 .f32) (h3 : M3.IsWhole) (M4 : Memref sig .tc .vmem S2x1024x1024 .f32) (h4 : M4.IsWhole)
    (M5 : Memref sig .tc .vmem S2x512x1024 .f32) (h5 : M5.IsWhole) (M6 : Memref sig .tc .vmem S256x1024 .f32) (h6 : M6.IsWhole)
    (pk : Vec F S256x1 .i32) (w : Vec F S256x1 .f32) (x : Vec F S256x1024 .f32) (u : Vec F S2x1024x1024 .f32) (dn : Vec F S2x512x1024 .f32)
    (o : Vec F S256x1024 .f32)

/-- The operands' buffers. -/
abbrev moeIn : sProp 𝕄 :=
  iprop(owns c M1 fullShare pk ∗ owns c M2 fullShare w ∗ owns c M3 fullShare x ∗ owns c M4 fullShare u ∗ owns c M5 fullShare dn)

/-- What the result's buffer is read as: zero at the first point, as it was at every other. -/
abbrev moeBase : Vec F S256x1024 .f32 := if isFirst i then k2_pay2 else o

theorem moe_run (Q : PUnit → sProp 𝕄) :
    iprop(owns c M1 fullShare pk ∗ owns c M2 fullShare w ∗ owns c M3 fullShare x ∗ owns c M4 fullShare u ∗ owns c M5 fullShare dn ∗ owns c M6 fullShare o
        ∗ (iprop(owns c M1 fullShare pk ∗ owns c M2 fullShare w ∗ owns c M3 fullShare x ∗ owns c M4 fullShare u ∗ owns c M5 fullShare dn
            ∗ owns c M6 fullShare (moeStep (BitVec.ofNat 32 (i 0).val) pk w x u dn (moeBase i o))) -∗ Q ⟨⟩))
      ⊢ wp frame (wpE (defs₀ (F := F)) 𝒱₀ (c : Thread nD τ) none) Set.univ (cc2__moe_body i M1 h1 M2 h2 M3 h3 M4 h4 M5 h5 M6 h6) Q := by
  rw [cc2__moe_body_eq_skeleton]
  unfold cc2__moe_body_skel
  rw [k2_part1_eq_skeleton, k2_part2_eq_skeleton]
  unfold k2_part1_skel k2_part2_skel owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  sl_exec
  sl_step
  iapply Hk
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  isplitl [H4]; · iexists f4; isplitr; · ipureintro; exact hf4
                  iexact H4
  isplitl [H5]; · iexists f5; isplitr; · ipureintro; exact hf5
                  iexact H5
  iexists _; isplitr; swap; · iexact H6
  ipureintro
  rw [read_whole_store M6.view _ zeros2]
  subst hf1 hf2 hf3 hf4 hf5 hf6
  have e1 : View.readAt (Elt F) M1.view (Rect.unit ![0, 0] S256x1.size inb_S256x1_S256x1_0_0).toLoadRect f1 = View.read (Elt F) M1.view f1 := by
    rw [View.readAt_eq_ld, View.ld_unit_zero (S := S256x1) zeros2]
  have e2 : View.readAt (Elt F) M2.view (Rect.unit ![0, 0] S256x1.size inb_S256x1_S256x1_0_0).toLoadRect f2 = View.read (Elt F) M2.view f2 := by
    rw [View.readAt_eq_ld, View.ld_unit_zero (S := S256x1) zeros2]
  have e3 : View.readAt (Elt F) M3.view (Rect.unit ![0, 0] S256x1024.size inb_S256x1024_S256x1024_0_0).toLoadRect f3 = View.read (Elt F) M3.view f3 := by
    rw [View.readAt_eq_ld, View.ld_unit_zero (S := S256x1024) zeros2]
  have e6 : View.readAt (Elt F) M6.view (Rect.unit ![0, 0] S256x1024.size inb_S256x1024_S256x1024_0_0).toLoadRect
      (if _ : isFirst i then M6.view.writes (Elt F) f6 [⟨Rect.unit ![0, 0] S256x1024.size inb_S256x1024_S256x1024_0_0, k2_pay2⟩] else f6)
      = moeBase i (View.read (Elt F) M6.view f6) := by
    rw [View.readAt_eq_ld, View.ld_unit_zero (S := S256x1024) zeros2]
    unfold moeBase
    by_cases h : isFirst i
    · rw [dif_pos h, if_pos h, read_whole_store M6.view _ zeros2]
    · rw [dif_neg h, if_neg h]
  unfold moeStep
  rw [← e1, ← e2, ← e3, ← e6]
  simp only [upOf0, upOf1, downOf0, downOf1, ← View.readAt_eq_ld]
  rfl

/-! ## The points together -/

/-- Experts `2n` and `2n + 1` of the whole arrays. -/
def upPair (U : S64x1024x1024.Idx → F .f32) (n : ℕ) : S2x1024x1024.Idx → F .f32 := fun i => U fun a => match a with
  | ⟨0, _⟩ => (⟨(2 * n + (i 0).val) % 64, Nat.mod_lt _ (by decide)⟩ : Fin 64)
  | ⟨1, _⟩ => i 1
  | ⟨2, _⟩ => i 2
def downPair (W : S64x512x1024.Idx → F .f32) (n : ℕ) : S2x512x1024.Idx → F .f32 := fun i => W fun a => match a with
  | ⟨0, _⟩ => (⟨(2 * n + (i 0).val) % 64, Nat.mod_lt _ (by decide)⟩ : Fin 64)
  | ⟨1, _⟩ => i 1
  | ⟨2, _⟩ => i 2

/-- The result's buffer after point `n`. -/
def moeTo (pk : Vec F S256x1 .i32) (w : Vec F S256x1 .f32) (x : Vec F S256x1024 .f32) (U : S64x1024x1024.Idx → F .f32)
    (W : S64x512x1024.Idx → F .f32) : ℕ → Vec F S256x1024 .f32
  | 0 => moeStep (BitVec.ofNat 32 0) pk w x (upPair U 0) (downPair W 0) k2_pay2
  | n + 1 => moeStep (BitVec.ofNat 32 (n + 1)) pk w x (upPair U (n + 1)) (downPair W (n + 1)) (moeTo pk w x U W n)

theorem isFirst_iff : ∀ t : Fin cfg2.N, isFirst (grid2.coords t) ↔ t.val = 0 := by
  change ∀ t : Fin 32, isFirst (grid2.coords t) ↔ t.val = 0
  decide +kernel
theorem coords_val : ∀ t : Fin cfg2.N, ((grid2.coords t) 0).val = t.val := by
  change ∀ t : Fin 32, ((grid2.coords t) 0).val = t.val
  decide +kernel

/-! ## The region's proof data -/

variable (Vc : Dev nD → Valuation τ sig (Elt F)) (b : ℕ)

abbrev pkOf (c : Dev nD) : S256x1.Idx → BitVec 32 := Vc c (Proc.devRef .tc main_v3)
abbrev wOf (c : Dev nD) : S256x1.Idx → F .f32 := Vc c (Proc.devRef .tc main_v4)
abbrev upOf (c : Dev nD) : S64x1024x1024.Idx → F .f32 := Vc c (Proc.devRef .tc main_arg2)
abbrev downOf (c : Dev nD) : S64x512x1024.Idx → F .f32 := Vc c (Proc.devRef .tc main_arg3)
abbrev moeAt (c : Dev nD) (n : ℕ) : Vec F S256x1024 .f32 := moeTo (pkOf Vc c) (wOf Vc c) (tokens Vc c) (upOf Vc c) (downOf Vc c) n

/-- Entered after the SparseCore call, the arrays at the valuation; after point `t` the operands' buffers as staged, the
    result's at the points up to `t`. -/
def dat1 (c : Dev nD) : Dat τ (Elt F) (HIx 1) ℕ UU ℕ cfg2 c where
  A w := Vc c (Proc.devRef .tc (arrRef spec2 w))
  after w t := match w with
    | ⟨0, _⟩ => pkOf Vc c
    | ⟨1, _⟩ => wOf Vc c
    | ⟨2, _⟩ => tokens Vc c
    | ⟨3, _⟩ => upPair (upOf Vc c) t.val
    | ⟨4, _⟩ => downPair (downOf Vc c) t.val
    | ⟨5, _⟩ => moeAt Vc c t.val
  Φ _ := scopedRest spec2 c
  q _ := fullShare
  owed _ := (K (F := F)).Otc (N := 1) c 1
  recorded _ := below (F := F) c b

theorem block2_0 (c : Dev nD) (t : Fin cfg2.N) : (dat1 Vc b c).blockOf 0 t = pkOf Vc c := by
  have hz : (fun a => win2_0.index t a * main_v3.ty.shape.size a) = fun _ => 0 := by funext a; fin_cases a <;> rfl
  exact Memref.read_access_unit_zero (Elt F) main_v3 hz (fun a => by rw [congrFun hz a]; simp) (Vc c (Proc.devRef .tc main_v3))
theorem block2_1 (c : Dev nD) (t : Fin cfg2.N) : (dat1 Vc b c).blockOf 1 t = wOf Vc c := by
  have hz : (fun a => win2_1.index t a * main_v4.ty.shape.size a) = fun _ => 0 := by funext a; fin_cases a <;> rfl
  exact Memref.read_access_unit_zero (Elt F) main_v4 hz (fun a => by rw [congrFun hz a]; simp) (Vc c (Proc.devRef .tc main_v4))
theorem block2_2 (c : Dev nD) (t : Fin cfg2.N) : (dat1 Vc b c).blockOf 2 t = tokens Vc c := by
  have hz : (fun a => win2_2.index t a * main_v0.ty.shape.size a) = fun _ => 0 := by funext a; fin_cases a <;> rfl
  exact Memref.read_access_unit_zero (Elt F) main_v0 hz (fun a => by rw [congrFun hz a]; simp) (Vc c (Proc.devRef .tc main_v0))

theorem before2_0 (c : Dev nD) (t : Fin cfg2.N) (d : (cfg2.win 0).block.Idx → Elt F (cfg2.win 0).elt) : (dat1 Vc b c).before 0 t d = pkOf Vc c :=
  ((dat1 Vc b c).before_in_eq_fetched 0 rfl (fun _ => rfl) (fun _ _ _ => rfl) (fun t => (block2_0 Vc b c t).symm) t d).trans (block2_0 Vc b c t)
theorem before2_1 (c : Dev nD) (t : Fin cfg2.N) (d : (cfg2.win 1).block.Idx → Elt F (cfg2.win 1).elt) : (dat1 Vc b c).before 1 t d = wOf Vc c :=
  ((dat1 Vc b c).before_in_eq_fetched 1 rfl (fun _ => rfl) (fun _ _ _ => rfl) (fun t => (block2_1 Vc b c t).symm) t d).trans (block2_1 Vc b c t)
theorem before2_2 (c : Dev nD) (t : Fin cfg2.N) (d : (cfg2.win 2).block.Idx → Elt F (cfg2.win 2).elt) : (dat1 Vc b c).before 2 t d = tokens Vc c :=
  ((dat1 Vc b c).before_in_eq_fetched 2 rfl (fun _ => rfl) (fun _ _ _ => rfl) (fun t => (block2_2 Vc b c t).symm) t d).trans (block2_2 Vc b c t)

/-- The block index of the weights' windows at point `t`. -/
theorem index2_3 : ∀ t : Fin cfg2.N, win2_3.index t 0 = t.val ∧ win2_3.index t 1 = 0 ∧ win2_3.index t 2 = 0 := by
  change ∀ t : Fin 32, win2_3.index t 0 = t.val ∧ win2_3.index t 1 = 0 ∧ win2_3.index t 2 = 0
  decide +kernel
theorem index2_4 : ∀ t : Fin cfg2.N, win2_4.index t 0 = t.val ∧ win2_4.index t 1 = 0 ∧ win2_4.index t 2 = 0 := by
  change ∀ t : Fin 32, win2_4.index t 0 = t.val ∧ win2_4.index t 1 = 0 ∧ win2_4.index t 2 = 0
  decide +kernel

theorem before2_3 (c : Dev nD) (t : Fin cfg2.N) (d : (cfg2.win 3).block.Idx → Elt F (cfg2.win 3).elt) :
    (dat1 Vc b c).before 3 t d = upPair (upOf Vc c) t.val := by
  rw [(dat1 Vc b c).before_fetched 3 t (fetch2_3 t)]
  have hi := index2_3 t
  have ht : t.val < 32 := t.isLt
  funext j
  have hj : (j 0).val < 2 := (j 0).isLt
  show upOf Vc c _ = upOf Vc c _
  congr 1
  funext a
  apply Fin.ext
  match a with
  | ⟨0, _⟩ => show win2_3.index t 0 * 2 + 1 * (j 0).val = (2 * t.val + (j 0).val) % 64; rw [hi.1]; omega
  | ⟨1, _⟩ => show win2_3.index t 1 * 1024 + 1 * (j 1).val = (j 1).val; rw [hi.2.1]; omega
  | ⟨2, _⟩ => show win2_3.index t 2 * 1024 + 1 * (j 2).val = (j 2).val; rw [hi.2.2]; omega
theorem before2_4 (c : Dev nD) (t : Fin cfg2.N) (d : (cfg2.win 4).block.Idx → Elt F (cfg2.win 4).elt) :
    (dat1 Vc b c).before 4 t d = downPair (downOf Vc c) t.val := by
  rw [(dat1 Vc b c).before_fetched 4 t (fetch2_4 t)]
  have hi := index2_4 t
  have ht : t.val < 32 := t.isLt
  funext j
  have hj : (j 0).val < 2 := (j 0).isLt
  show downOf Vc c _ = downOf Vc c _
  congr 1
  funext a
  apply Fin.ext
  match a with
  | ⟨0, _⟩ => show win2_4.index t 0 * 2 + 1 * (j 0).val = (2 * t.val + (j 0).val) % 64; rw [hi.1]; omega
  | ⟨1, _⟩ => show win2_4.index t 1 * 512 + 1 * (j 1).val = (j 1).val; rw [hi.2.1]; omega
  | ⟨2, _⟩ => show win2_4.index t 2 * 1024 + 1 * (j 2).val = (j 2).val; rw [hi.2.2]; omega

/-- Where a point starts from and its step give the buffer at that point. -/
theorem moe_next (c : Dev nD) (t : Fin cfg2.N) (d : (cfg2.win 5).block.Idx → Elt F (cfg2.win 5).elt) :
    moeStep (BitVec.ofNat 32 ((grid2.coords t) 0).val) (pkOf Vc c) (wOf Vc c) (tokens Vc c) (upPair (upOf Vc c) t.val) (downPair (downOf Vc c) t.val)
      (moeBase (grid2.coords t) ((dat1 Vc b c).before 5 t d)) = moeAt Vc c t.val := by
  rw [coords_val]
  unfold moeBase
  by_cases h : t.val = 0
  · rw [if_pos ((isFirst_iff t).2 h), h]; rfl
  · rw [if_neg (fun hf => h ((isFirst_iff t).1 hf))]
    have hfl : (cfg2.win 5).flush ⟨t.val - 1, Nat.lt_of_le_of_lt (Nat.sub_le _ _) t.isLt⟩ = false := by
      rw [Bool.eq_false_iff]; intro hf
      have := (flush2_5 _).1 hf
      have ht : t.val < 32 := t.isLt
      simp only at this; omega
    rw [(dat1 Vc b c).before_out_kept 5 rfl t h hfl (fun _ => rfl) (fun _ _ => rfl) d]
    obtain ⟨n, hn⟩ := Nat.exists_eq_succ_of_ne_zero h
    show moeStep _ _ _ _ _ _ (moeAt Vc c (t.val - 1)) = _
    rw [hn]; rfl

theorem body1 (c : Dev nD) : BodyObligation (dat1 Vc b c) (defs₀ (F := F)) 𝒱₀ none Set.univ := fun t => by
  rw [bigSep_W2, bigSep_W2]
  rw [show (dat1 Vc b c).Φ t.castSucc = scopedRest spec2 c from rfl, show (dat1 Vc b c).Φ t.succ = scopedRest spec2 c from rfl,
    show (dat1 Vc b c).owesAt none t.succ = (dat1 Vc b c).owesAt none t.castSucc from rfl]
  iintro ⟨HΦ, Howes, ⟨%d0, H0⟩, ⟨%d1, H1⟩, ⟨%d2, H2⟩, ⟨%d3, H3⟩, ⟨%d4, H4⟩, ⟨%d5, H5⟩⟩
  rw [before2_0, before2_1, before2_2, before2_3, before2_4]
  iapply (moe_run c (grid2.coords t) (win2_0.stage (cfg2.slots t 0)) (hstage2_0 ((cfg2.slots t 0).cast nbuf2_0)) (win2_1.stage (cfg2.slots t 1))
    (hstage2_1 ((cfg2.slots t 1).cast nbuf2_1)) (win2_2.stage (cfg2.slots t 2)) (hstage2_2 ((cfg2.slots t 2).cast nbuf2_2))
    (win2_3.stage (cfg2.slots t 3)) (hstage2_3 ((cfg2.slots t 3).cast nbuf2_3)) (win2_4.stage (cfg2.slots t 4))
    (hstage2_4 ((cfg2.slots t 4).cast nbuf2_4)) (win2_5.stage (cfg2.slots t 5)) (hstage2_5 ((cfg2.slots t 5).cast nbuf2_5))
    (pkOf Vc c) (wOf Vc c) (tokens Vc c) (upPair (upOf Vc c) t.val) (downPair (downOf Vc c) t.val) _ _)
  isplitl [H0]; · iexact H0
  isplitl [H1]; · iexact H1
  isplitl [H2]; · iexact H2
  isplitl [H3]; · iexact H3
  isplitl [H4]; · iexact H4
  isplitl [H5]; · iexact H5
  rw [moe_next]
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

/-- The last point. -/
abbrev lastPt : Fin cfg2.N := ⟨31, by decide⟩

/-- The result's array at the end: what the last point left, its one block the array. -/
theorem final1 (c : Dev nD) : (dat1 Vc b c).arrAt 5 cfg2.N = moeAt Vc c 31 := by
  have hz : ∀ t : Fin cfg2.N, (fun a => win2_5.index t a * main_v5.ty.shape.size a) = fun _ => 0 := fun t => by funext a; fin_cases a <;> rfl
  refine (dat1 Vc b c).arrAt_eq_of_cover 5 (moeAt Vc c 31) (fun t hf => ?_) fun i => ⟨lastPt, (flush2_5 _).2 rfl, ?_⟩
  · have h31 : t.val = 31 := by have := (flush2_5 t).1 hf; have ht : t.val < 32 := t.isLt; omega
    have hm := (Memref.read_access_unit_zero (Elt F) main_v5 (hz t) (fun a => by rw [congrFun (hz t) a]; simp) (moeAt Vc c 31)).symm
    refine Eq.trans ?_ hm
    show moeAt Vc c t.val = _
    rw [h31]
  · show i ∈ ((View.whole main_v5).slice (win2_5.rect lastPt)).set
    rw [View.set_slice_whole, Rect.mem_set_unit]
    intro a
    have h0 : (i 0 : Nat) < 256 := (i 0).isLt
    have h1 : (i 1 : Nat) < 1024 := (i 1).isLt
    match a with
    | ⟨0, _⟩ => exact ⟨Nat.zero_le _, h0⟩
    | ⟨1, _⟩ => exact ⟨Nat.zero_le _, h1⟩

end Cert.Proof.Route

end
-- ==== Proof.Tile.lean ====
/-
  One task of the routing kernel at a symbolic SparseCore and tile: the logits fetched whole into the tile's scratch,
  its sixteen columns scanned, the pairs and weights stored and copied out to its sixteen places.
-/
module

public import proofs.«01_k».proof.Proof.Setup
public import Idealize.ShloMosaic.Lib.Pipeline.Value

@[expose] public section

noncomputable section

namespace Cert.Proof.Route

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "lV" => (Memref.whole Cert.KernelIdeal.main_v1_scv : Memref Cert.KernelIdeal.sig Kind.scVector Space.hbm Cert.KernelIdeal.S64x256 EltTy.f32)
local notation "pV" => (Memref.whole Cert.KernelIdeal.main_v2_0_scv : Memref Cert.KernelIdeal.sig Kind.scVector Space.hbm Cert.KernelIdeal.S256 EltTy.i32)
local notation "wV" => (Memref.whole Cert.KernelIdeal.main_v2_1_scv : Memref Cert.KernelIdeal.sig Kind.scVector Space.hbm Cert.KernelIdeal.S256 EltTy.f32)
local notation "sL" => (Memref.whole Cert.KernelIdeal.cc1_scratch0 : Memref Cert.KernelIdeal.sig Kind.scVector Space.vmem Cert.KernelIdeal.S64x256 EltTy.f32)
local notation "sP" => (Memref.whole Cert.KernelIdeal.cc1_scratch1 : Memref Cert.KernelIdeal.sig Kind.scVector Space.vmem Cert.KernelIdeal.S16 EltTy.i32)
local notation "sW" => (Memref.whole Cert.KernelIdeal.cc1_scratch2 : Memref Cert.KernelIdeal.sig Kind.scVector Space.vmem Cert.KernelIdeal.S16 EltTy.f32)

variable (m : (ℓ : Loc nD τ sig) → Buf (Elt F) ℓ) (X : Dev nD → (S64x256.Idx → F .f32))
variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The SparseCore and the tile of a task. -/
abbrev cL (L : grid1.Coords) : Fin 2 := Fin.cast bound_zero (L 0)
abbrev jL (L : grid1.Coords) : Fin 16 := Fin.cast bound_one (L 1)

/-! ## Which tasks work, and where -/

theorem works_iff : ∀ L : grid1.Coords, k1_cond1 L = 1#1 ↔ cL L = 0 := by decide +kernel
theorem base_val : ∀ L : grid1.Coords, k1_cond1 L = 1#1 → (Scalar.indexCast (base L)).toNat = 16 * (jL L).val := by decide +kernel
theorem off65_val : ∀ L : grid1.Coords, k1_cond1 L = 1#1 → k1_off65 L 0 = 16 * (jL L).val := by decide +kernel

theorem outAt_eq (h : k1_cond1 L = 1#1) : outAt L h = blk (jL L) := by
  unfold outAt blk Rect.part Rect.block
  congr 1 <;> funext a
  · match a with
    | 0 => rw [off65_val L h]; simp [Shape.partIx, Shape.partSize, Nat.mul_comm]
  · match a with
    | 0 => simp [Shape.partSize]

abbrev pOut (L : grid1.Coords) (h : k1_cond1 L = 1#1) : Memref sig .scVector .hbm S16 .i32 := (pV).slice (outAt L h) (fun _ => rfl)
abbrev wOut (L : grid1.Coords) (h : k1_cond1 L = 1#1) : Memref sig .scVector .hbm S16 .f32 := (wV).slice (outAt L h) (fun _ => rfl)

theorem set_pOut (h : k1_cond1 L = 1#1) : (pOut L h).view.set = blkSet (jL L) := by
  show ((pV).view.slice (outAt L h)).set = ((pV).view.slice (blk (jL L))).set
  rw [outAt_eq]
theorem set_wOut (h : k1_cond1 L = 1#1) : (wOut L h).view.set = blkSet (jL L) := by
  show ((wV).view.slice (outAt L h)).set = ((pV).view.slice (blk (jL L))).set
  rw [outAt_eq]; rfl

/-- The place of lane `l` in the task's part of a result. -/
theorem emb_pOut (h : k1_cond1 L = 1#1) (l : S16.Idx) : (pOut L h).view.emb l = place (jL L) l := by
  funext a
  match a with
  | 0 =>
    apply Fin.ext
    show k1_off65 L 0 + 1 * (l 0).val = 16 * (jL L).val + (l 0).val
    rw [off65_val L h, Nat.one_mul]
theorem emb_wOut (h : k1_cond1 L = 1#1) (l : S16.Idx) : (wOut L h).view.emb l = place (jL L) l := emb_pOut L h l

/-! ## The row reads -/

/-- Row `e` as the task reads it off its copy of the logits: the block's lanes of the row. -/
theorem row_read (h : k1_cond1 L = 1#1) (x : S64x256.Idx → F .f32) {e : ℕ} (he : e < 64) :
    shapeCast S16 ((sL).view.readAt (Elt F) (rowAt L h he).toLoadRect x) shapeCasts_S1x16_S16 = laneRow x (jL L) e := by
  funext l
  refine (shapeCast_dropUnit_apply ![16] _ shapeCasts_S1x16_S16 l).trans ?_
  show x ((rowAt L h he).toLoadRect.idx (Fin.cons ⟨0, Nat.one_pos⟩ l)) = x (ix2 (Fin.ofNat 64 e) (tok (jL L) l))
  congr 1
  funext a
  match a with
  | 0 =>
    apply Fin.ext
    show e + 1 * 0 = e % 64
    rw [Nat.mod_eq_of_lt he]; rfl
  | 1 =>
    apply Fin.ext
    show (Scalar.indexCast (base L)).toNat + 1 * (l 0).val = 16 * (jL L).val + (l 0).val
    rw [base_val L h, Nat.one_mul]

/-- The scan from row `n` on, whatever follows it: the four results at row 64. -/
theorem wp_scan (h : k1_cond1 L = 1#1) (x : S64x256.Idx → F .f32)
    (k : FVec F S16 .f32 → FVec F S16 .f32 → IVec S16 32 → IVec S16 32 → Prog (TE (F := F) L) PUnit) (Q : PUnit → sProp 𝕄) :
    ∀ (r n : ℕ) (hn : r + n = 64),
      iprop(((sL).view.loc (V d (cV L) (jV L)) ↦{fullShare} x)
          ∗ (((sL).view.loc (V d (cV L) (jV L)) ↦{fullShare} x)
              -∗ wp frame (wpE (defs₀ (F := F)) 𝒱₀ (V d (cV L) (jV L)) none) Set.univ
                (k (lanesM1 x (jL L) 64) (lanesM2 x (jL L) 64) (lanesI1 x (jL L) 64) (lanesI2 x (jL L) 64)) Q))
        ⊢ wp frame (wpE (defs₀ (F := F)) 𝒱₀ (V d (cV L) (jV L)) none) Set.univ
          (scanFrom L h sL k r n hn (lanesM1 x (jL L) n) (lanesM2 x (jL L) n) (lanesI1 x (jL L) n) (lanesI2 x (jL L) n)) Q
  | 0, n, hn => by
    obtain rfl : n = 64 := by omega
    unfold scanFrom
    iintro ⟨H, Hk⟩
    iapply Hk; iexact H
  | r + 1, n, hn => by
    have ih := wp_scan h x k Q r (n + 1) (by omega)
    unfold scanFrom
    iintro ⟨H, Hk⟩
    iapply (wp_load 𝒱₀ (V d (cV L) (jV L)) none Set.univ (S := Finset.univ) (f := x) (Finset.subset_univ _)) $$ H
    iintro H
    rw [row_read]
    iapply ih
    isplitl [H]; · iexact H
    iexact Hk

/-! ## What a tile owns -/

abbrev cell0 (d : Dev nD) (L : grid1.Coords) : GSem nD τ sig := (V d (cV L) (jV L), .dma cc1_scoped0.sem)
abbrev cell1 (d : Dev nD) (L : grid1.Coords) : GSem nD τ sig := (V d (cV L) (jV L), .dma cc1_scoped1.sem)
abbrev cell2 (d : Dev nD) (L : grid1.Coords) : GSem nD τ sig := (V d (cV L) (jV L), .dma cc1_scoped2.sem)

theorem ownSems0_V :
    (ownSems0 (V d (cV L) (jV L)) : sProp 𝕄)
      = iprop(semVal (cell0 d L) 0 ∗ semVal (cell1 d L) 0 ∗ semVal (cell2 d L) 0
          ∗ bigSep ((((ownCells (V d (cV L) (jV L))).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc1_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc1_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc1_scoped2.sem : SemLoc sig).isScoped .scVector = true; decide⟩⟩⟩)]

/-- The tile's own buffers are the three scratches, each at some contents, together with the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩)]

theorem pts_lV (q : PosShare TreeShare) (f : Buf (Elt F) (lLoc d)) :
    ((lV).view.loc (V d (cV L) (jV L)) ↦{q} f : sProp 𝕄) = lLoc d ↦{q} f := rfl
theorem pts_sL (f : Buf (Elt F) ((V d (cV L) (jV L)).loc cc1_scratch0)) :
    ((sL).view.loc (V d (cV L) (jV L)) ↦{fullShare} f : sProp 𝕄) = (V d (cV L) (jV L)).loc cc1_scratch0 ↦{fullShare} f := rfl
theorem pts_sP (f : Buf (Elt F) ((V d (cV L) (jV L)).loc cc1_scratch1)) :
    ((sP).view.loc (V d (cV L) (jV L)) ↦{fullShare} f : sProp 𝕄) = (V d (cV L) (jV L)).loc cc1_scratch1 ↦{fullShare} f := rfl
theorem pts_sW (f : Buf (Elt F) ((V d (cV L) (jV L)).loc cc1_scratch2)) :
    ((sW).view.loc (V d (cV L) (jV L)) ↦{fullShare} f : sProp 𝕄) = (V d (cV L) (jV L)).loc cc1_scratch2 ↦{fullShare} f := rfl
theorem pts_pOut (h : k1_cond1 L = 1#1) (f : Buf (Elt F) (pLoc d)) :
    ((pOut L h).view.loc (V d (cV L) (jV L)) ↦[(pOut L h).view.set]{fullShare} f : sProp 𝕄) = pLoc d ↦[blkSet (jL L)]{fullShare} f := by
  rw [set_pOut]
theorem pts_wOut (h : k1_cond1 L = 1#1) (f : Buf (Elt F) (wLoc d)) :
    ((wOut L h).view.loc (V d (cV L) (jV L)) ↦[(wOut L h).view.set]{fullShare} f : sProp 𝕄) = wLoc d ↦[blkSet (jL L)]{fullShare} f := by
  rw [set_wOut]

/-- The task's part of the pairs after a copy of its sixteen pairs into it; -/
theorem pts_pOut_done (h : k1_cond1 L = 1#1) (f : Buf (Elt F) (pLoc d)) (x : S64x256.Idx → F .f32) (w : S16.Idx → Elt F .i32)
    (hw : ∀ l, w l = pairs x (place (jL L) l)) :
    ((pOut L h).view.loc (V d (cV L) (jV L)) ↦[(pOut L h).view.set]{fullShare} (pOut L h).view.writes (Elt F) f [⟨Rect.whole S16, w⟩] : sProp 𝕄)
      = pLoc d ↦[blkSet (jL L)]{fullShare} pairs x := by
  rw [← pts_pOut d L h]
  refine pointsTo_congr fun i hi => ?_
  obtain ⟨l, -, rfl⟩ := Finset.mem_map.mp hi
  refine ((pOut L h).view.read_writes_cons_hit f (Rect.whole S16) w [] l l (Rect.emb_eq_of_coords _ _ _ fun a => by
    show (l a).val = 0 + 1 * (l a).val; omega)).trans ((hw l).trans ?_)
  exact congrArg (pairs x) (emb_pOut L h l).symm
/-- and of the weights. -/
theorem pts_wOut_done (h : k1_cond1 L = 1#1) (f : Buf (Elt F) (wLoc d)) (x : S64x256.Idx → F .f32) (w : S16.Idx → Elt F .f32)
    (hw : ∀ l, w l = weights x (place (jL L) l)) :
    ((wOut L h).view.loc (V d (cV L) (jV L)) ↦[(wOut L h).view.set]{fullShare} (wOut L h).view.writes (Elt F) f [⟨Rect.whole S16, w⟩] : sProp 𝕄)
      = wLoc d ↦[blkSet (jL L)]{fullShare} weights x := by
  rw [← pts_wOut d L h]
  refine pointsTo_congr fun i hi => ?_
  obtain ⟨l, -, rfl⟩ := Finset.mem_map.mp hi
  refine ((wOut L h).view.read_writes_cons_hit f (Rect.whole S16) w [] l l (Rect.emb_eq_of_coords _ _ _ fun a => by
    show (l a).val = 0 + 1 * (l a).val; omega)).trans ((hw l).trans ?_)
  exact congrArg (weights x) (emb_wOut L h l).symm

/-! ## The task -/

/-- The waits a task records beyond those it came with. -/
abbrev WaitsKept (W W' : Waits sig (HIx 1)) : Prop := ∀ p ∈ W', p ∈ W ∨ p.2 = none ∨ p.2 = some (0 : Fin 1)

theorem waitsKept (W W' : Waits sig (HIx 1)) : WaitsKept W W' := by
  intro p _
  rcases p.2 with _ | q
  · exact .inr (.inl rfl)
  · exact .inr (.inr (congrArg some (Subsingleton.elim q 0)))

/-- The tile's own, outside the task's operands, and what it owes. -/
abbrev ownPts (d : Dev nD) (L : grid1.Coords) (O : CellTallies nD τ sig (HIx 1)) (W : Waits sig (HIx 1)) : sProp 𝕄 :=
  iprop(scopedBufs (V d (cV L) (jV L)) ∗ scopedSems0 (V d (cV L) (jV L)) ∗ owes (V d (cV L) (jV L)) O W)

set_option maxHeartbeats 1000000 in
/-- A working task. -/
theorem tile_work (h : k1_cond1 L = 1#1) (f : Buf (Elt F) (pLoc d)) (g : Buf (Elt F) (wLoc d))
    (O : CellTallies nD τ sig (HIx 1)) (W : Waits sig (HIx 1)) (hO : ∀ g, O g none = 0) :
    iprop(levAts (K (F := F)).L (K (F := F)).lev ∗ taskPts X d (jL L) f g ∗ ownPts d L O W)
      ⊢ wp frame (wpE (defs₀ (F := F)) 𝒱₀ (V d (cV L) (jV L)) none) Set.univ
          (work L h sL lV (Memref.isWhole_whole _) pV wV (Memref.isWhole_whole _) sP (Memref.isWhole_whole _) sW (Memref.isWhole_whole _)
            cc1_scoped0 cc1_scoped1 cc1_scoped2)
          fun _ => iprop(taskPts X d (jL L) (pairs (X d)) (weights (X d))
            ∗ scopedBufs (V d (cV L) (jV L)) ∗ scopedSems0 (V d (cV L) (jV L)) ∗ ∃ W', ⌜WaitsKept W W'⌝ ∗ owes (V d (cV L) (jV L)) O W') := by
  unfold ownPts taskPts
  rw [(K (F := F)).scopedBufs_V facts d (cV L) (jV L), SparseCore.Cfg.scopedSems0_V (Val := Elt F) d (cV L) (jV L), ownSems0_V, ownBufs_V]
  iintro ⟨#Hlv, ⟨Hl, Hp, Hw⟩, ⟨⟨%fs, Hs⟩, ⟨%fp, Hsp⟩, ⟨%fw, Hsw⟩, Hbufs⟩, ⟨Hs0, Hs1, Hs2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hl' := (Entails.of_eq (pts_lV (F := F) d L _ _).symm) $$ Hl
  ihave Hp' := (Entails.of_eq (pts_pOut (F := F) d L h _).symm) $$ Hp
  ihave Hw' := (Entails.of_eq (pts_wOut (F := F) d L h _).symm) $$ Hw
  ihave Hs' := (Entails.of_eq (pts_sL (F := F) d L _).symm) $$ Hs
  ihave Hsp' := (Entails.of_eq (pts_sP (F := F) d L _).symm) $$ Hsp
  ihave Hsw' := (Entails.of_eq (pts_sW (F := F) d L _).symm) $$ Hsw
  unfold work
  generalize hscan : scanFrom (F := F) L h sL _ _ _ _ _ _ _ _ = scan
  sl_exec
  subst hscan
  rw [show View.write (Elt F) (sL).view fs (tile_work.sl.dma0 X d) Finset.univ = X d from View.write_whole_univ _ _ _]
  iapply (wp_scan d L h (X d) _ _ 64 0 rfl)
  isplitl [Hs']; · iexact Hs'
  iintro Hs'
  unfold finish
  sl_exec
  have hP : ∀ l, tile_work.sl.dma4 X d L fp l = pairs (X d) (place (jL L) l) := fun l =>
    ((sP).view.read_writes_cons_hit_of_coords fp (Rect.unit (s := S16) ![0] S16.size inb_S16_S16_0) _ [] l l (fun a => by
      match a with
      | 0 => show (l 0).val = 0 + 1 * (l 0).val; omega)).trans (congrFun (packed_lanes (X d) (jL L)) l)
  have hW : ∀ l, tile_work.sl.dma4_1 X d L fw l = weights (X d) (place (jL L) l) := fun l =>
    ((sW).view.read_writes_cons_hit_of_coords fw (Rect.unit (s := S16) ![0] S16.size inb_S16_S16_0) _ [] l l (fun a => by
      match a with
      | 0 => show (l 0).val = 0 + 1 * (l 0).val; omega)).trans (congrFun (weight_lanes (X d) (jL L)) l)
  sl_step
  isplitl [Hl' Hp' Hw']
  · isplitl [Hl']; · iexact Hl'
    isplitl [Hp']; · iapply (Entails.of_eq (pts_pOut_done d L h f (X d) _ hP)); iexact Hp'
    iapply (Entails.of_eq (pts_wOut_done d L h g (X d) _ hW)); iexact Hw'
  isplitl [Hs' Hsp' Hsw' Hbufs]
  · isplitl [Hs']; · iexists _; iexact Hs'
    isplitl [Hsp']; · iexists _; iexact Hsp'
    isplitl [Hsw']; · iexists _; iexact Hsw'
    iexact Hbufs
  isplitl [Hs0 Hs1 Hs2 Hsems]
  · isplitl [Hs0]; · iexact Hs0
    isplitl [Hs1]; · iexact Hs1
    isplitl [Hs2]; · iexact Hs2
    iexact Hsems
  iexists _; isplitr
  swap; · iexact HO
  ipureintro; exact waitsKept W _

/-- The task on tile `L 1` of SparseCore `L 0`: on SparseCore 0 it works, on SparseCore 1 it returns at once. -/
theorem tile_body (f : Buf (Elt F) (pLoc d)) (g : Buf (Elt F) (wLoc d))
    (O : CellTallies nD τ sig (HIx 1)) (W : Waits sig (HIx 1)) (hO : ∀ g, O g none = 0) :
    iprop(levAts (K (F := F)).L (K (F := F)).lev ∗ emp ∗ onZero (cL L) (taskPts X d (jL L) f g) ∗ ownPts d L O W)
      ⊢ wp frame (wpE (defs₀ (F := F)) 𝒱₀ (V d (cV L) (jV L)) none) Set.univ
          (cc1__sc_route_body L lV (Memref.isWhole_whole _) pV (Memref.isWhole_whole _) wV (Memref.isWhole_whole _)
            sL (Memref.isWhole_whole _) sP (Memref.isWhole_whole _) sW (Memref.isWhole_whole _) cc1_scoped0 cc1_scoped1 cc1_scoped2)
          fun _ => iprop(onZero (cL L) (taskPts X d (jL L) (pairs (X d)) (weights (X d)))
            ∗ scopedBufs (V d (cV L) (jV L)) ∗ scopedSems0 (V d (cV L) (jV L)) ∗ ∃ W', ⌜WaitsKept W W'⌝ ∗ owes (V d (cV L) (jV L)) O W') := by
  by_cases h : k1_cond1 L = 1#1
  · rw [body_eq (h := h), wp_bind]
    have hc : cL L = 0 := (works_iff L).mp h
    rw [hc, onZero_zero, onZero_zero]
    simp only [wp_pure]
    iintro ⟨Hlv, -, Ht, Ho⟩
    iapply (wp_wand_r frame _ Set.univ)
    isplitl [Hlv Ht Ho]
    · iapply (tile_work X d L h f g O W hO)
      isplitl [Hlv]; · iexact Hlv
      isplitl [Ht]; · iexact Ht
      iexact Ho
    iintro %_ H
    imodintro
    iexact H
  · rw [body_idle (h := h)]
    have hc : cL L = 1 := by
      have h0 : cL L ≠ 0 := fun e => h ((works_iff L).mpr e)
      generalize cL L = c at h0
      omega
    rw [hc, onZero_one, onZero_one, wp_pure]
    iintro ⟨-, -, -, Hb, Hs, HO⟩
    imodintro
    isplitr; · iempintro
    isplitl [Hb]; · iexact Hb
    isplitl [Hs]; · iexact Hs
    iexists _; isplitr
    swap; · iexact HO
    ipureintro; exact waitsKept W _

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_route_body (coordsV c s)
          lV (Memref.isWhole_whole _) pV (Memref.isWhole_whole _) wV (Memref.isWhole_whole _)
          sL (Memref.isWhole_whole _) sP (Memref.isWhole_whole _) sW (Memref.isWhole_whole _) cc1_scoped0 cc1_scoped1 cc1_scoped2) ⟨⟩ c s := rfl

theorem tileObl : (K (F := F)).TileObl (D (F := F)) 𝒱 (P m X) v₀ 0 := by
  intro d c i O W hO _ _
  simp only [show (P m X).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body X d (coordsV ⟨_, hci.1⟩ ⟨_, hci.2⟩) (m (pLoc d)) (m (wLoc d)) O W hO

end Cert.Proof.Route

end
-- ==== Proof.Main.lean ====
/-
  The whole program's run. The TensorCore's thread is a chain of valuations of its buffers: the tokens reshaped, the
  logits, the SparseCore call's pairs and weights of those logits, both reshaped, the experts' weighted sum, and that
  reshaped to the result. Written once at any format interpretation.
-/
module

public import proofs.«01_k».proof.Proof.Moe
public import proofs.«01_k».proof.Proof.Tile

@[expose] public section

noncomputable section

namespace Cert.Proof.Route

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat BodyObligation BodyObligationLoose PLaunchFacts RegionSeg pin ucRefs arrRef arrRefs afterRegion scopedRest cellsGhost toksInit)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The valuations -/

abbrev op0 : HloOp τ sig (Elt F) := StableHlo.reshape main_arg0 main_v0 (rfl : (.f32 : EltTy) = .f32) shapeCasts_S32x8x1024_S256x1024
abbrev op3 : HloOp τ sig (Elt F) := StableHlo.reshape main_v2_0 main_v3 (rfl : (.i32 : EltTy) = .i32) shapeCasts_S256_S256x1
abbrev op4 : HloOp τ sig (Elt F) := StableHlo.reshape main_v2_1 main_v4 (rfl : (.f32 : EltTy) = .f32) shapeCasts_S256_S256x1
abbrev op6 : HloOp τ sig (Elt F) := StableHlo.reshape main_v5 main_v6 (rfl : (.f32 : EltTy) = .f32) shapeCasts_S256x1024_S32x8x1024

/-- The bounds on the waits before and after the SparseCore call. -/
abbrev b0 : ℕ := 8 * 0
abbrev b1 : ℕ := 8 * 1

def V0 (d : Dev nD) : Valuation τ sig (Elt F) := fun b => m (d, b)
def V1 (d : Dev nD) : Valuation τ sig (Elt F) := op0.result (V0 m d)
def V2 (d : Dev nD) : Valuation τ sig (Elt F) := afterRegion (dat0 (V1 m) b0 d) (V1 m d)
/-- The logits the SparseCore call reads. -/
abbrev X (d : Dev nD) : S64x256.Idx → F .f32 := logits (V1 m) d
def V3 (d : Dev nD) : Valuation τ sig (Elt F) :=
  Function.update (Function.update (V2 m d) (Proc.devRef .tc main_v2_0) (pairs (X m d))) (Proc.devRef .tc main_v2_1) (weights (X m d))
def V4 (d : Dev nD) : Valuation τ sig (Elt F) := op3.result (V3 m d)
def V5 (d : Dev nD) : Valuation τ sig (Elt F) := op4.result (V4 m d)
def V6 (d : Dev nD) : Valuation τ sig (Elt F) := afterRegion (dat1 (V5 m) b1 d) (V5 m d)
def V7 (d : Dev nD) : Valuation τ sig (Elt F) := op6.result (V6 m d)

def pdats : (p : Fin 2) → (c : Dev nD) → Dat τ (Elt F) (HIx 1) ℕ UU ℕ (pin (pcfgs (F := F)) adm p) c := fun p c => match p with
  | 0 => dat0 (V1 m) b0 c
  | 1 => dat1 (V5 m) b1 c

theorem arr0 (Vc : Dev nD → Valuation τ sig (Elt F)) (b : ℕ) (c : Dev nD) (w : Fin cfg0.W) :
    (dat0 Vc b c).arrAt w 0 = Vc c (Proc.devRef .tc (arrRef spec0 w)) := rfl
theorem arr1 (Vc : Dev nD → Valuation τ sig (Elt F)) (b : ℕ) (c : Dev nD) (w : Fin cfg2.W) :
    (dat1 Vc b c).arrAt w 0 = Vc c (Proc.devRef .tc (arrRef spec2 w)) := rfl

theorem rest1 (c : Dev nD) (t : Fin (cfg2.N + 1)) : (pdats m 1 c).Φ t = scopedRest (pin (pcfgs (F := F)) adm 1).spec c := by
  show scopedRest spec2 c = _
  have h : (pin (pcfgs (F := F)) adm 1).spec = spec2 := rfl
  have h2 : scopedRest (pin (pcfgs (F := F)) adm 1).spec c = (scopedRest spec2 c : sProp 𝕄) := rfl
  exact h2.symm

def region0 : RegionSeg (pcfgs (F := F)) adm (pdats m) none defs₀ 𝒱₀ (K (F := F)).L (K (F := F)).lev 0 :=
  region (pdats m) 0 0 b0 launch0.toP rfl (fun c => (body0 (V1 m) b0 c).loose) (fun _ _ => rfl) (fun _ _ => rfl)
    (fun c w => (dat0 (V1 m) b0 c).share_full (fun _ => rfl) w) (fun _ _ => rfl) (V1 m) (arr0 (V1 m) b0)
def region1 : RegionSeg (pcfgs (F := F)) adm (pdats m) none defs₀ 𝒱₀ (K (F := F)).L (K (F := F)).lev 1 :=
  region (pdats m) 1 1 b1 launch2.toP rfl (fun c => (body1 (V5 m) b1 c).loose) (fun _ _ => rfl) (fun _ _ => rfl)
    (fun c w => (dat1 (V5 m) b1 c).share_full (fun _ => rfl) w) (rest1 m) (V5 m) (arr1 (V5 m) b1)

/-! ## One step of the thread -/

variable [∀ e, Nonempty (Elt F e)]

/-- A pipeline's ghost state on one device. -/
abbrev ghost (p : Fin 2) (d : Dev nD) : sProp 𝕄 :=
  iprop(cellsGhost (pin (pcfgs (F := F)) adm) EP p d ∗ toksInit (pin (pcfgs (F := F)) adm) EP p d)

/-- What the thread keeps between two steps: the boundary, its buffers at a valuation, its place among the SparseCore calls. -/
abbrev at_ (d : Dev nD) (n : ℕ) (W : Valuation τ sig (Elt F)) : sProp 𝕄 :=
  iprop(boundary (T d : Thread nD τ) ∗ StableHlo.held (d.tc : Thread nD τ) (ucRefs τ sig) W ∗ (K (F := F)).tcSt EH d n)

theorem step_hlo (op : HloOp τ sig (Elt F)) (hb : op.bufs ⊆ StableHlo.tcRefs τ sig) (hf : op.fresh = ∅) (d : Dev nD) (n : ℕ) (W : Valuation τ sig (Elt F))
    (Φ : PUnit → sProp 𝕄) :
    iprop(at_ d n W ∗ (at_ d n (op.result W) -∗ Φ ⟨⟩))
      ⊢ wp frame (wpE ((K (F := F)).defs (D (F := F))) 𝒱 (T d) none) Set.univ (hlo rfl op fun _ => .ret ⟨⟩) Φ := by
  iintro ⟨⟨Hb, Hh, Hst⟩, Hk⟩
  iapply (StableHlo.wp_hlo_within 𝒱 (d.tc : Thread nD τ) none Set.univ (Pipeline.sub_ucRefs op hb) (hf := hf)) $$ [Hb Hh]
  · isplitl [Hb] <;> iassumption
  iintro ⟨Hb, Hh⟩
  rw [wp_ret]; imodintro
  iapply Hk
  isplitl [Hb]; · iexact Hb
  isplitl [Hh] <;> iassumption

/-- A TensorCore's place among the SparseCore calls is what it owes, and the rest. -/
theorem tcSt_split (d : Dev nD) (n : ℕ) : ∃ rest : sProp 𝕄, (K (F := F)).tcSt EH d n = iprop(owing n (8 * n) d ∗ rest) := ⟨_, rfl⟩

theorem step_region (p : Fin 2) (n : ℕ) (R : RegionSeg (pcfgs (F := F)) adm (pdats m) none defs₀ 𝒱₀ (K (F := F)).L (K (F := F)).lev p) (d : Dev nD)
    (W W' : Valuation τ sig (Elt F))
    (hpre : R.pre d = iprop(StableHlo.held (d.tc : Thread nD τ) (ucRefs τ sig) W ∗ owing n (8 * n) d))
    (hpost : R.post d = iprop(StableHlo.held (d.tc : Thread nD τ) (ucRefs τ sig) W' ∗ owing n (8 * n) d))
    (X' : Dev nD → (S64x256.Idx → F .f32)) (κ : GSem nD τ sig → ℕ) (Φ : PUnit → sProp 𝕄) :
    iprop((K (F := F)).ctx EH (P m X') κ ∗ at_ d n W ∗ ghost p d ∗ (at_ d n W' -∗ Φ ⟨⟩))
      ⊢ wp frame (wpE ((K (F := F)).defs (D (F := F))) 𝒱 (T d) none) Set.univ (Prog.lift (.customCall (SparseCore.inner (Pipeline.entry p)) ())) Φ := by
  obtain ⟨rest, hrest⟩ := tcSt_split (F := F) d n
  unfold at_
  rw [hrest]
  suffices h : iprop((K (F := F)).ctx EH (P m X') κ ∗ (boundary (T d : Thread nD τ) ∗ StableHlo.held (d.tc : Thread nD τ) (ucRefs τ sig) W ∗ owing n (8 * n) d ∗ rest) ∗ ghost p d
        ∗ ((boundary (T d : Thread nD τ) ∗ StableHlo.held (d.tc : Thread nD τ) (ucRefs τ sig) W' ∗ owing n (8 * n) d ∗ rest) -∗ Φ ⟨⟩))
      ⊢ wp frame (wpE (D (F := F)) 𝒱 (T d) none) Set.univ (Prog.op (.customCall (Pipeline.entry p) ()) .ret) Φ from
    h.trans ((K (F := F)).wp_liftProg (D (F := F)) 𝒱 (T d) Set.univ none (Prog.op (.customCall (Pipeline.entry p) ()) .ret) Φ)
  iintro ⟨Hctx, ⟨Hb, Hh, HO, Hrest⟩, ⟨Hg, Ht⟩, Hk⟩
  ihave Hlev := (SparseCore.Cfg.ctx_levAts κ) $$ Hctx
  iapply (RegionSeg.wp (pcfgs (F := F)) adm (pdats m) none cellOf_inj EP defs₀ 𝒱₀ (K (F := F)).L (K (F := F)).lev R d none (fun u hu => by simp at hu) .ret Φ)
  rw [hpre, hpost]
  isplitl [Hk Hrest]
  · iintro ⟨Hb, Hh, HO⟩
    rw [wp_ret]; imodintro
    iapply Hk
    isplitl [Hb]; · iexact Hb
    isplitl [Hh]; · iexact Hh
    isplitl [HO] <;> iassumption
  isplitl [Hb]; · iexact Hb
  isplitl [Hh HO]; · isplitl [Hh] <;> iassumption
  isplitl [Hlev]; · iexact Hlev
  isplitl [Hg] <;> iassumption

/-! ## The SparseCore call's buffers -/

abbrev callRefs : Finset (DevRef τ sig) := {Proc.devRef .tc main_v1, Proc.devRef .tc main_v2_0, Proc.devRef .tc main_v2_1}
theorem callRefs_sub : callRefs ⊆ ucRefs τ sig := by decide

theorem held_call (d : Dev nD) (W : Valuation τ sig (Elt F)) :
    (StableHlo.held (d.tc : Thread nD τ) callRefs W : sProp 𝕄)
      = iprop((lLoc d ↦{fullShare} W (Proc.devRef .tc main_v1)) ∗ (pLoc d ↦{fullShare} W (Proc.devRef .tc main_v2_0))
          ∗ wLoc d ↦{fullShare} W (Proc.devRef .tc main_v2_1)) := by
  unfold StableHlo.held
  rw [SparseCore.bigSep_insert' (by decide), SparseCore.bigSep_insert' (by decide), bigSep_singleton]

theorem onZero_both (R : sProp 𝕄) : (bigSep Finset.univ fun c : Fin 2 => onZero c R) = R := by
  rw [show (Finset.univ : Finset (Fin 2)) = {0, 1} from by decide, SparseCore.bigSep_insert' (by decide), bigSep_singleton, onZero_zero, onZero_one]
  exact BI.equiv_iff.mp sep_emp

theorem st_eq (X' : Dev nD → (S64x256.Idx → F .f32)) (d : Dev nD) :
    (bigSep Finset.univ fun c : Fin ((K (F := F)).nCore 0) => (P m X').st 0 d c) = callPts X' d (m (pLoc d)) (m (wLoc d)) :=
  onZero_both _
theorem dn_eq (X' : Dev nD → (S64x256.Idx → F .f32)) (d : Dev nD) :
    (bigSep Finset.univ fun c : Fin ((K (F := F)).nCore 0) => (P m X').dn 0 d c) = callPts X' d (pairs (X' d)) (weights (X' d)) :=
  onZero_both _

/-! ## The chain read at the buffers the steps use -/

theorem V1_ne (d : Dev nD) {r : Ref sig .tc} (h : r ≠ main_v0) : V1 m d (Proc.devRef .tc r) = m (d, Proc.devRef .tc r) :=
  StableHlo.reshape_result_ne _ _ _ _ _ _ _ h
theorem V2_v1 (d : Dev nD) : V2 m d (Proc.devRef .tc main_v1) = X m d :=
  (Pipeline.afterRegion_arr (dat0 (V1 m) b0 d) (V1 m d) winFacts0.arr_inj 2).trans (final0 (V1 m) b0 d)
theorem V2_ne (d : Dev nD) {r : Ref sig .tc} (h : r ≠ main_v1) : V2 m d (Proc.devRef .tc r) = V1 m d (Proc.devRef .tc r) :=
  Pipeline.afterRegion_keeps (dat0 (V1 m) b0 d) (V1 m d) winFacts0.arr_inj (fun _ => rfl) r fun w hw => by
    match w with
    | ⟨0, _⟩ => rfl
    | ⟨1, _⟩ => rfl
    | ⟨2, _⟩ => exact absurd hw.symm h

theorem V3_p (d : Dev nD) : V3 m d (Proc.devRef .tc main_v2_0) = pairs (X m d) :=
  (Function.update_of_ne (by decide) _ _).trans (Function.update_self _ _ _)
theorem V3_w (d : Dev nD) : V3 m d (Proc.devRef .tc main_v2_1) = weights (X m d) := Function.update_self _ _ _
theorem V3_ne (d : Dev nD) {b : DevRef τ sig} (hp : b ≠ Proc.devRef .tc main_v2_0) (hw : b ≠ Proc.devRef .tc main_v2_1) : V3 m d b = V2 m d b :=
  (Function.update_of_ne hw _ _).trans (Function.update_of_ne hp _ _)

theorem step_call (κ : GSem nD τ sig → ℕ) (d : Dev nD) (Φ : PUnit → sProp 𝕄) :
    iprop((K (F := F)).ctx EH (P m (X m)) κ ∗ at_ d 0 (V2 m d) ∗ (at_ d 1 (V3 m d) -∗ Φ ⟨⟩))
      ⊢ wp frame (wpE ((K (F := F)).defs (D (F := F))) 𝒱 (T d) none) Set.univ ((K (F := F)).run d 0) Φ := by
  unfold at_
  rw [StableHlo.held_sub_split (d.tc : Thread nD τ) callRefs_sub (V2 m d), StableHlo.held_sub_split (d.tc : Thread nD τ) callRefs_sub (V3 m d),
    held_call, held_call, V2_v1, V2_ne m d (show main_v2_0 ≠ main_v1 by decide), V2_ne m d (show main_v2_1 ≠ main_v1 by decide),
    V1_ne m d (show main_v2_0 ≠ main_v0 by decide), V1_ne m d (show main_v2_1 ≠ main_v0 by decide), V3_p, V3_w,
    V3_ne m d (show (Proc.devRef .tc main_v1 : DevRef τ sig) ≠ Proc.devRef .tc main_v2_0 by decide) (by decide), V2_v1,
    StableHlo.held_congr (d.tc : Thread nD τ) (S := ucRefs τ sig \ callRefs) (V := V3 m d) (V' := V2 m d) (fun b hb => V3_ne m d
      (fun h => (Finset.mem_sdiff.mp hb).2 (by rw [h]; decide)) (fun h => (Finset.mem_sdiff.mp hb).2 (by rw [h]; decide)))]
  iintro ⟨Hctx, ⟨Hb, ⟨Hcall, Hrest⟩, Hst⟩, Hk⟩
  iapply ((K (F := F)).wp_run (D (F := F)) 𝒱 (EH := EH) (P := P m (X m)) κ d 0)
  rw [st_eq, dn_eq]
  isplitl [Hctx]; · iexact Hctx
  isplitl [Hst]; · iexact Hst
  isplitl [Hcall]; · iexact Hcall
  iintro ⟨Hst, Hdn⟩
  iapply Hk
  isplitl [Hb]; · iexact Hb
  isplitl [Hdn Hrest]; · isplitl [Hdn] <;> iassumption
  iexact Hst

/-! ## @main -/

/-- What a device is given at launch besides its arrays: both pipelines' ghost states. -/
abbrev G (d : Dev nD) : sProp 𝕄 := iprop(ghost 0 d ∗ ghost 1 d)
/-- What it ends with: its buffers at the last valuation. -/
abbrev FIN (d : Dev nD) : sProp 𝕄 := StableHlo.held (d.tc : Thread nD τ) (ucRefs τ sig) (V7 m d)

theorem hmain (κ : GSem nD τ sig → ℕ) (d : Dev nD) :
    iprop((K (F := F)).ctx EH (P m (X m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((T d : Thread nD τ).loc b)) : sProp 𝕄) = StableHlo.held (d.tc : Thread nD τ) (ucRefs τ sig) (V0 m d) from
    Pipeline.unscopedBufs_held d (V0 m d)]
  simp only [main, wp_bind, wp_pure]
  iintro ⟨#Hctx, Hst, ⟨Hb, Hh, Hts, -⟩, ⟨Hg0, Hg1⟩⟩
  iapply (step_hlo op0 (StableHlo.reshape_bufs_sub ..) rfl d 0 (V0 m d))
  isplitl [Hb Hh Hst]; · isplitl [Hb]; · iexact Hb
                         isplitl [Hh] <;> iassumption
  iintro Hat
  iapply (step_region m 0 0 (region0 m) d (V1 m d) (V2 m d) rfl rfl (X m) κ)
  isplitr; · iexact Hctx
  isplitl [Hat]; · iexact Hat
  isplitl [Hg0]; · iexact Hg0
  iintro Hat
  iapply (step_call m κ d)
  isplitr; · iexact Hctx
  isplitl [Hat]; · iexact Hat
  iintro Hat
  iapply (step_hlo op3 (StableHlo.reshape_bufs_sub ..) rfl d 1 (V3 m d))
  isplitl [Hat]; · iexact Hat
  iintro Hat
  iapply (step_hlo op4 (StableHlo.reshape_bufs_sub ..) rfl d 1 (V4 m d))
  isplitl [Hat]; · iexact Hat
  iintro Hat
  iapply (step_region m 1 1 (region1 m) d (V5 m d) (V6 m d) rfl rfl (X m) κ)
  isplitr; · iexact Hctx
  isplitl [Hat]; · iexact Hat
  isplitl [Hg1]; · iexact Hg1
  iintro Hat
  iapply (step_hlo op6 (StableHlo.reshape_bufs_sub ..) rfl d 1 (V6 m d))
  isplitl [Hat]; · iexact Hat
  iintro ⟨Hb, Hh, Hst⟩
  imodintro
  isplitl [Hst]; · iexact Hst
  isplitl [Hh]; · iexact Hh
  isplitl [Hb] <;> iassumption

/-! ## The launch's ghost state and the end -/

/-- The ghost state at launch: the handshakes' rounds, the pipelines' rounds, no transfer counted. -/
def u₀ : UU := (Rounds.initOf (K (F := F)).hsCells (K (F := F)).hsToks,
  (Rounds.initOf (Pipeline.cells (pin (pcfgs (F := F)) adm) cellOf_inj) (Pipeline.launchToks (pin (pcfgs (F := F)) adm) cellOf_inj), 1))

theorem own_pipes (a : UP) (b : Counters) :
    (BI.own ((embR : Emb (UP × Counters) 𝕄) (a, b)) : sProp 𝕄) ⊢ iprop(BI.own (EP a) ∗ BI.own (((Emb.inr : Emb Counters (UP × Counters)).trans embR) b)) :=
  own_pair_emb (embR : Emb (UP × Counters) 𝕄) a b

theorem bigSep_two (R : Fin 2 → sProp 𝕄) : (bigSep Finset.univ R) = iprop(R 0 ∗ R 1) := by
  rw [show (Finset.univ : Finset (Fin 2)) = {0, 1} from by decide, SparseCore.bigSep_insert' (by decide), bigSep_singleton]

/-- The pipelines' funded ghost states, dealt device by device. -/
theorem deal_ghost :
    iprop((bigSep Finset.univ fun c : Dev nD => bigSep Finset.univ fun p => cellsGhost (pin (pcfgs (F := F)) adm) EP p c)
        ∗ (bigSep Finset.univ fun c : Dev nD => bigSep Finset.univ fun p => toksInit (pin (pcfgs (F := F)) adm) EP p c))
      ⊢ (bigSep Finset.univ fun d : Dev nD => G d : sProp 𝕄) := by
  rw [← bigSep_sep']
  refine Entails.of_eq (bigSep_congr fun d _ => ?_)
  rw [← bigSep_sep', bigSep_two]

theorem hu₀ : (ownU (u₀ (F := F)) : sProp 𝕄)
    ⊢ |={Set.univ}=> iprop(BI.own (EH (Rounds.initOf (K (F := F)).hsCells (K (F := F)).hsToks)) ∗ (bigSep Finset.univ fun d : Dev nD => G d)
        ∗ bigSep Finset.univ fun thr : Thread nD τ => bigSep Finset.univ fun q : Fin 1 => (P m (X m)).x q thr) := by
  unfold u₀
  iintro Hu
  ihave H := (ownU_pair (Rounds.initOf (K (F := F)).hsCells (K (F := F)).hsToks) (_ : UP × Counters)) $$ Hu
  icases H with ⟨HH, HU⟩
  ihave HP := (own_pipes _ _) $$ HU
  icases HP with ⟨HP, -⟩
  imod (Pipeline.fund_ghost (pin (pcfgs (F := F)) adm) EP cellOf_inj) $$ HP with ⟨Hc, Ht⟩
  imodintro
  isplitl [HH]; · iexact HH
  isplitl [Hc Ht]
  · iapply (deal_ghost (F := F))
    isplitl [Hc] <;> iassumption
  rw [show (bigSep Finset.univ fun thr : Thread nD τ => bigSep Finset.univ fun q : Fin 1 => (P m (X m)).x q thr) = bigSep Finset.univ fun _ => iprop(emp) from
    bigSep_congr fun _ _ => bigSep_emp' _, bigSep_emp']
  iempintro

def fq (d : Dev nD) (s' : Phys nD τ sig (Elt F)) : Prop := ∀ b ∈ ucRefs τ sig, s'.mem.mem (d, b) = V7 m d b

theorem hfin (d : Dev nD) (s' : Phys nD τ sig (Elt F)) : iprop(FIN m d ∗ SI s') ⊢ (⌜fq m d s'⌝ : sProp 𝕄) :=
  (pointsTo_read_all (ucRefs τ sig) (fun b => (d, b)) (fun b => V7 m d b) s').trans sep_elim_left

/-- The program's end: every unscoped buffer of every device's TensorCore at the last valuation, every semaphore zero. -/
def QC : PUnit × MemSt nD τ sig (Elt F) → Prop := fun r => (∀ d : Dev nD, ∀ b ∈ ucRefs τ sig, r.2.mem (d, b) = V7 m d b) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (X m)) (A := ∅) facts v₀
    (fun q hq => match q with | 0 => nomatch hq)
    (fun q _ => match q with | 0 => tileObl m (X m))
    (fun q _ => match q with | 0 => SparseCore.Cfg.VecSplit.of_plain (vecSplit m (X m)))
    m ρ main (fun d => G d) (FIN m) (u₀ (F := F)) (sep_elim_left.trans (hu₀ m)) (hmain m ρ) (fq m) (hfin m) (QC m) (fun _ h hz => ⟨h, hz⟩)

end Cert.Proof.Route

end
-- ==== Proof.Frames.lean ====
/-
  What the run leaves: the arguments as launched, and the result array in terms of them.
-/
module

public import proofs.«01_k».proof.Defs
public import proofs.«01_k».proof.Proof.Main
public import proofs.«01_k».proof.Proof.Gen.Kernel
public import proofs.«01_k».proof.Proof.Gen.ReferenceIdeal.Run
public import Idealize.ShloMosaic.Lib.Quiescent

@[expose] public section

noncomputable section

namespace Cert.Proof.Route

open Cert.KernelIdeal Cert.KernelIdeal.Gen
open Idealize.ShloMosaic Idealize.SL.Sem
open Idealize.ShloMosaic.TcCoe

variable {F : FTy → Type} [FloatOps F] [Named F]
variable (m : (ℓ : Loc nD τ sig) → Buf (Elt F) ℓ) (ρ : Dev nD → PrngReg)

/-! ## Buffers no step writes -/

theorem V3_keep (d : Dev nD) {r : Ref sig .tc} (h0 : r ≠ main_v0) (h1 : r ≠ main_v1) (hp : r ≠ main_v2_0) (hw : r ≠ main_v2_1) :
    V3 m d (Proc.devRef .tc r) = m (d, Proc.devRef .tc r) :=
  (V3_ne m d (fun h => hp (Proc.devRef_injective _ h)) (fun h => hw (Proc.devRef_injective _ h))).trans ((V2_ne m d h1).trans (V1_ne m d h0))

theorem V5_of_V3 (d : Dev nD) {r : Ref sig .tc} (h3 : r ≠ main_v3) (h4 : r ≠ main_v4) :
    V5 m d (Proc.devRef .tc r) = V3 m d (Proc.devRef .tc r) :=
  (StableHlo.reshape_result_ne _ _ _ _ _ _ _ h4).trans (StableHlo.reshape_result_ne _ _ _ _ _ _ _ h3)

theorem V6_ne (d : Dev nD) {r : Ref sig .tc} (h : r ≠ main_v5) : V6 m d (Proc.devRef .tc r) = V5 m d (Proc.devRef .tc r) :=
  Pipeline.afterRegion_keeps (dat1 (V5 m) b1 d) (V5 m d) winFacts2.arr_inj (fun _ => rfl) r fun w hw => by
    match w with
    | ⟨0, _⟩ => rfl
    | ⟨1, _⟩ => rfl
    | ⟨2, _⟩ => rfl
    | ⟨3, _⟩ => rfl
    | ⟨4, _⟩ => rfl
    | ⟨5, _⟩ => exact absurd hw.symm h

theorem V6_v5 (d : Dev nD) : V6 m d (Proc.devRef .tc main_v5) = moeAt (V5 m) d 31 :=
  (Pipeline.afterRegion_arr (dat1 (V5 m) b1 d) (V5 m d) winFacts2.arr_inj 5).trans (final1 (V5 m) b1 d)

theorem V7_ne (d : Dev nD) {r : Ref sig .tc} (h : r ≠ main_v6) : V7 m d (Proc.devRef .tc r) = V6 m d (Proc.devRef .tc r) :=
  StableHlo.reshape_result_ne _ _ _ _ _ _ _ h

/-- A buffer no step writes ends as launched. -/
theorem V7_keep (d : Dev nD) {r : Ref sig .tc} (h0 : r ≠ main_v0) (h1 : r ≠ main_v1) (hp : r ≠ main_v2_0) (hw : r ≠ main_v2_1)
    (h3 : r ≠ main_v3) (h4 : r ≠ main_v4) (h5 : r ≠ main_v5) (h6 : r ≠ main_v6) : V7 m d (Proc.devRef .tc r) = m (d, Proc.devRef .tc r) :=
  (V7_ne m d h6).trans ((V6_ne m d h5).trans ((V5_of_V3 m d h3 h4).trans (V3_keep m d h0 h1 hp hw)))

/-! ## The result -/

/-- The tokens, one row each. -/
abbrev rows (d : Dev nD) : S256x1024.Idx → F .f32 := shapeCast S256x1024 (m (d, Proc.devRef .tc main_arg0)) shapeCasts_S32x8x1024_S256x1024

/-- The router's logits, an expert's row by token's column. -/
abbrev scores (d : Dev nD) : S64x256.Idx → F .f32 := k0_pay1 (rows m d) (m (d, Proc.devRef .tc main_arg1))

/-- The experts' weighted sum, token by token. -/
abbrev mixed (d : Dev nD) : S256x1024.Idx → F .f32 :=
  moeTo (shapeCast S256x1 (pairs (scores m d)) shapeCasts_S256_S256x1) (shapeCast S256x1 (weights (scores m d)) shapeCasts_S256_S256x1) (rows m d)
    (m (d, Proc.devRef .tc main_arg2)) (m (d, Proc.devRef .tc main_arg3)) 31

theorem V1_v0 (d : Dev nD) : V1 m d (Proc.devRef .tc main_v0) = rows m d := StableHlo.reshape_result ..

theorem X_eq (d : Dev nD) : X m d = scores m d := by
  show k0_pay1 (V1 m d (Proc.devRef .tc main_v0)) (V1 m d (Proc.devRef .tc main_arg1)) = _
  rw [V1_v0, V1_ne m d (show main_arg1 ≠ main_v0 by decide)]

theorem V4_v3 (d : Dev nD) : V4 m d (Proc.devRef .tc main_v3) = shapeCast S256x1 (pairs (scores m d)) shapeCasts_S256_S256x1 := by
  refine (StableHlo.reshape_result ..).trans ?_
  rw [V3_p, X_eq]
  rfl

theorem V5_v3 (d : Dev nD) : V5 m d (Proc.devRef .tc main_v3) = shapeCast S256x1 (pairs (scores m d)) shapeCasts_S256_S256x1 :=
  (StableHlo.reshape_result_ne _ _ _ _ _ _ _ (show main_v3 ≠ main_v4 by decide)).trans (V4_v3 m d)

theorem V5_v4 (d : Dev nD) : V5 m d (Proc.devRef .tc main_v4) = shapeCast S256x1 (weights (scores m d)) shapeCasts_S256_S256x1 := by
  refine (StableHlo.reshape_result ..).trans ?_
  rw [show V4 m d (Proc.devRef .tc main_v2_1) = V3 m d (Proc.devRef .tc main_v2_1) from
    StableHlo.reshape_result_ne _ _ _ _ _ _ _ (show main_v2_1 ≠ main_v3 by decide), V3_w, X_eq]
  rfl

theorem V5_v0 (d : Dev nD) : V5 m d (Proc.devRef .tc main_v0) = rows m d :=
  (V5_of_V3 m d (by decide) (by decide)).trans ((V3_ne m d (by decide) (by decide)).trans ((V2_ne m d (by decide)).trans (V1_v0 m d)))

theorem V5_keep (d : Dev nD) {r : Ref sig .tc} (h0 : r ≠ main_v0) (h1 : r ≠ main_v1) (hp : r ≠ main_v2_0) (hw : r ≠ main_v2_1)
    (h3 : r ≠ main_v3) (h4 : r ≠ main_v4) : V5 m d (Proc.devRef .tc r) = m (d, Proc.devRef .tc r) :=
  (V5_of_V3 m d h3 h4).trans (V3_keep m d h0 h1 hp hw)

theorem moeAt_eq (d : Dev nD) : moeAt (V5 m) d 31 = mixed m d := by
  show moeTo (V5 m d (Proc.devRef .tc main_v3)) (V5 m d (Proc.devRef .tc main_v4)) (V5 m d (Proc.devRef .tc main_v0))
    (V5 m d (Proc.devRef .tc main_arg2)) (V5 m d (Proc.devRef .tc main_arg3)) 31 = _
  rw [V5_v3, V5_v4, V5_v0, V5_keep m d (r := main_arg2) (by decide) (by decide) (by decide) (by decide) (by decide) (by decide),
    V5_keep m d (r := main_arg3) (by decide) (by decide) (by decide) (by decide) (by decide) (by decide)]

/-- The result array's last value. -/
abbrev result (d : Dev nD) : S32x8x1024.Idx → F .f32 := shapeCast S32x8x1024 (mixed m d) shapeCasts_S256x1024_S32x8x1024

theorem V7_v6 (d : Dev nD) : V7 m d (Proc.devRef .tc main_v6) = result m d := by
  refine (StableHlo.reshape_result ..).trans ?_
  rw [V6_v5, moeAt_eq]
  rfl

/-! ## The run, stated by the arguments -/

variable [∀ e, Nonempty (Elt F e)]

theorem run_value : θ_run (Cert.KernelIdeal.defs (F := F)) (Cert.KernelIdeal.threads (F := F)) ⟨m, fun _ => 0, ρ⟩ fun r =>
    (∀ c : Dev nD, r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run Cert.KernelIdeal.defs _ _).mono (fun r h => ⟨fun c =>
    ⟨(h.1 c (Proc.devRef .tc main_v6) (by decide)).trans (V7_v6 m c),
      (h.1 c (Proc.devRef .tc main_arg0) (by decide)).trans (V7_keep m c (by decide) (by decide) (by decide) (by decide) (by decide) (by decide) (by decide) (by decide)),
      (h.1 c (Proc.devRef .tc main_arg1) (by decide)).trans (V7_keep m c (by decide) (by decide) (by decide) (by decide) (by decide) (by decide) (by decide) (by decide)),
      (h.1 c (Proc.devRef .tc main_arg2) (by decide)).trans (V7_keep m c (by decide) (by decide) (by decide) (by decide) (by decide) (by decide) (by decide) (by decide)),
      (h.1 c (Proc.devRef .tc main_arg3) (by decide)).trans (V7_keep m c (by decide) (by decide) (by decide) (by decide) (by decide) (by decide) (by decide) (by decide))⟩, h.2⟩)
    (run_main m ρ)

end Cert.Proof.Route

/-! ## The frames -/

namespace Cert.Proof.Route

open Idealize.ShloMosaic Idealize.SL.Sem

theorem frame_ideal : Cert.quiescent_KernelIdeal := fun m ρ _ =>
  (θ_run Cert.KernelIdeal.defs _ _).mono (fun _ h => ⟨fun c => (h.1 c).2, h.2⟩) (run_value (F := Ideal) m ρ)

/-- At the words, a named constant is its own bit pattern. -/
abbrev bitsNamed : Named Bits := ⟨fun _ _ {_} w => FloatOps.ofBits _ w⟩

attribute [local instance] bitsNamed

/-- With the constant unnamed the kernel's bodies are the same programs. -/
theorem bodies_eq : Cert.Kernel.defs₀ (F := Bits) = Cert.KernelIdeal.defs₀ (F := Bits) := by
  funext p ℓ a
  match p, ℓ, a with
  | .tc, 0, (t, s) => rfl
  | .scVector c s, 1, _ => rfl
  | .tc, 2, (t, s) => rfl
  | .tc, 1, _ => rfl
  | .scVector c s, 0, _ => rfl
  | .scVector c s, 2, _ => rfl
  | .scScalar c, 0, _ => rfl
  | .scScalar c, 1, _ => rfl
  | .scScalar c, 2, _ => rfl

theorem defs_eq : Cert.Kernel.defs (F := Bits) = Cert.KernelIdeal.defs (F := Bits) :=
  congrArg (fun D => (Cert.KernelIdeal.sc (F := Bits)).defs (Pipeline.defs (Cert.KernelIdeal.pcfgs (F := Bits)) D)) bodies_eq

theorem threads_eq : Cert.Kernel.threads (F := Bits) = Cert.KernelIdeal.threads (F := Bits) := rfl

theorem frame_kernel : Cert.quiescent_Kernel := fun m ρ _ => by
  rw [defs_eq, threads_eq]
  exact (θ_run Cert.KernelIdeal.defs _ _).mono (fun _ h => ⟨fun c => (h.1 c).2, h.2⟩) (run_value (F := Bits) m ρ)

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

theorem preserves : Cert.preserves_Kernel_KernelIdeal :=
  IdealRules.named_const.statement Cert.KernelIdeal.κ "mask" .f32 0xFF61B1E6#32 ⊥ rfl

end Cert.Proof.Route

end
-- ==== Proof.Picks.lean ====
/-
  The two best of a row of values: the greatest, the lower place first among equals, and the best of the others. The
  strict running scan finds them, and so does a stable sort.
-/
module

public import proofs.«01_k».proof.Proof.Top
public import Idealize.ShloMosaic.Lib.SortFacts
public import Idealize.ShloMosaic.Lib.PlanTiles.StableSort
public import Idealize.ShloMosaic.PureOps.Ideal.Laws

@[expose] public section

noncomputable section

namespace Cert.Proof.Route

open Cert.KernelIdeal Cert.KernelIdeal.Gen
open Idealize.ShloMosaic

/-! ## The order -/

section Ordering

variable {ι α β : Type} [LinearOrder ι] [LinearOrder α] [LinearOrder β]

/-- Place `x` comes before place `y`. -/
def Ahead (v : ι → α) (x y : ι) : Prop := v y < v x ∨ (v x = v y ∧ x < y)

theorem Ahead.asymm {v : ι → α} {x y : ι} (h : Ahead v x y) (h' : Ahead v y x) : False := by
  rcases h with h | ⟨h, l⟩ <;> rcases h' with h' | ⟨h', l'⟩
  · exact lt_asymm h h'
  · exact h.ne h'
  · exact h'.ne h
  · exact lt_asymm l l'

/-- `a` is the best place and `b` the second. -/
structure Best2 (v : ι → α) (a b : ι) : Prop where
  ne : a ≠ b
  first : ∀ e, e ≠ a → Ahead v a e
  second : ∀ e, e ≠ a → e ≠ b → Ahead v b e

theorem Best2.unique {v : ι → α} {a b a' b' : ι} (h : Best2 v a b) (h' : Best2 v a' b') : a = a' ∧ b = b' := by
  have ha : a = a' := by
    by_contra hn
    exact (h.first a' (Ne.symm hn)).asymm (h'.first a hn)
  subst ha
  refine ⟨rfl, ?_⟩
  by_contra hn
  exact (h.second b' (Ne.symm h'.ne) (Ne.symm hn)).asymm (h'.second b (Ne.symm h.ne) hn)

/-- An order-preserving change of the values keeps the two best. -/
theorem Best2.mono {v : ι → α} {w : ι → β} (hvw : ∀ x y, v x < v y ↔ w x < w y) {a b : ι} (h : Best2 v a b) : Best2 w a b := by
  have key : ∀ x y, Ahead v x y → Ahead w x y := by
    intro x y hxy
    rcases hxy with hlt | ⟨heq, hlt⟩
    · exact Or.inl ((hvw y x).mp hlt)
    · refine Or.inr ⟨le_antisymm (not_lt.mp fun c => ?_) (not_lt.mp fun c => ?_), hlt⟩
      · exact absurd ((hvw y x).mpr c) (by rw [heq]; exact lt_irrefl _)
      · exact absurd ((hvw x y).mpr c) (by rw [heq]; exact lt_irrefl _)
  exact ⟨h.ne, fun e he => key _ _ (h.first e he), fun e he he' => key _ _ (h.second e he he')⟩

end Ordering

/-! ## The stable sort finds them -/

section Sorting

variable {α : Type} [LinearOrder α] {n : ℕ}

/-- How many places hold a lesser value. -/
def lesser (v : Fin n → α) (e : Fin n) : ℕ := (Finset.univ.filter fun e' => v e' < v e).card

theorem lesser_lt_iff (v : Fin n → α) (x y : Fin n) : lesser v x < lesser v y ↔ v x < v y := by
  constructor
  · intro h
    by_contra hn
    exact absurd h (not_lt.mpr (Finset.card_le_card fun e he => by
      simp only [Finset.mem_filter, Finset.mem_univ, true_and] at he ⊢
      exact he.trans_le (not_lt.mp hn)))
  · intro h
    refine Finset.card_lt_card ⟨fun e he => ?_, fun hs => ?_⟩
    · simp only [Finset.mem_filter, Finset.mem_univ, true_and] at he ⊢
      exact he.trans h
    · have := hs (show x ∈ _ by simpa using h)
      simp at this

/-- Of two places of the sort the earlier holds what comes before. -/
theorem sorted_ahead (v : Fin n → α) (i j : Fin n) (hij : i < j) :
    Ahead v (sortedFrom (fun k k' => decide (v k' < v k)) i) (sortedFrom (fun k k' => decide (v k' < v k)) j) := by
  have hB : (fun k k' : Fin n => decide (v k' < v k)) = fun k k' => decide (lesser v k' < lesser v k) := by
    funext k k'
    exact decide_eq_decide.mpr (lesser_lt_iff v k' k).symm
  have hp := PlanTiles.pairwise_stableSort_lex (lesser v) (fun a b : Fin n => a < b) (List.finRange n) (List.pairwise_lt_finRange n)
  rw [hB]
  have hg := List.pairwise_iff_get.mp hp
    (i.cast (length_sortPositions n fun k k' => decide (lesser v k' < lesser v k)).symm)
    (j.cast (length_sortPositions n fun k k' => decide (lesser v k' < lesser v k)).symm) (show i.val < j.val from hij)
  rcases hg with h | ⟨h, h'⟩
  · exact Or.inl ((lesser_lt_iff v _ _).mp h)
  · refine Or.inr ⟨le_antisymm (not_lt.mp fun c => ?_) (not_lt.mp fun c => ?_), h'⟩
    · exact absurd ((lesser_lt_iff v _ _).mpr c) (not_lt.mpr (le_of_eq h))
    · exact absurd ((lesser_lt_iff v _ _).mpr c) (not_lt.mpr (le_of_eq h.symm))

theorem best2_sorted (v : Fin (n + 2) → α) :
    Best2 v (sortedFrom (fun k k' => decide (v k' < v k)) 0) (sortedFrom (fun k k' => decide (v k' < v k)) 1) where
  ne h := absurd (sortedFrom_injective _ h) (by simp)
  first e he := by
    obtain ⟨i, rfl⟩ := sortedFrom_surjective (fun k k' => decide (v k' < v k)) e
    exact sorted_ahead v 0 i (Fin.pos_of_ne_zero fun h => he (by rw [h]))
  second e he he' := by
    obtain ⟨i, rfl⟩ := sortedFrom_surjective (fun k k' => decide (v k' < v k)) e
    refine sorted_ahead v 1 i ?_
    have h0 : i ≠ 0 := fun h => he (by rw [h])
    have h1 : i ≠ 1 := fun h => he' (by rw [h])
    rw [Fin.lt_def, Fin.val_one]
    have : i.val ≠ 0 := fun h => h0 (Fin.ext h)
    have : i.val ≠ 1 := fun h => h1 (Fin.ext (by rw [h, Fin.val_one]))
    omega

end Sorting

/-! ## The scan finds them -/

/-- The mask lies below every real. -/
theorem mask_bot : Named.named (F := Ideal) Cert.KernelIdeal.κ "mask" (φ := .f32) 0xFF61B1E6#32 = (⊥ : EReal) :=
  IdealRules.named_const.ideal_named_scalar _ _ _ _ rfl

theorem pick_gt {α : Type} (x y : EReal) (p q : α) :
    Scalar.select (FloatOps.cmpf (F := Ideal) (φ := .f32) .ogt x y) p q = if y < x then p else q := by
  rw [Ideal.cmpf_def]
  show Scalar.select (BitVec.ofBool (decide (y < x))) p q = _
  by_cases h : y < x
  · rw [decide_eq_true h, if_pos h]; rfl
  · rw [decide_eq_false h, if_neg h]; rfl

theorem next_eq (s : Top Ideal) (v : EReal) (e : BitVec 32) :
    s.next (F := Ideal) v e = if s.m1 < v then ⟨v, s.m1, e, s.i1⟩ else if s.m2 < v then ⟨s.m1, v, s.i1, e⟩ else s := by
  unfold Top.next
  simp only [pick_gt]
  by_cases h1 : s.m1 < v
  · simp only [if_pos h1]
  · simp only [if_neg h1]
    by_cases h2 : s.m2 < v
    · simp only [if_pos h2]
    · simp only [if_neg h2]

/-- What the scan holds after the experts below `n`. -/
structure Scanned (col : ℕ → EReal) (n a b : ℕ) : Prop where
  eq : topTo (F := Ideal) col n = ⟨col a, col b, BitVec.ofNat 32 a, BitVec.ofNat 32 b⟩
  ha : a < n
  hb : b < n
  ne : a ≠ b
  first : ∀ e < n, e ≠ a → Ahead col a e
  second : ∀ e < n, e ≠ a → e ≠ b → Ahead col b e

theorem scanned_two (col : ℕ → EReal) (h0 : ⊥ < col 0) (h1 : ⊥ < col 1) : ∃ a b, Scanned col 2 a b := by
  have e1 : topTo (F := Ideal) col 1 = ⟨col 0, ⊥, 0#32, 0#32⟩ := by
    show Top.next (F := Ideal) Top.start (col 0) 0#32 = _
    rw [next_eq]
    unfold Top.start
    rw [mask_bot]
    simp only [if_pos h0]
  have e2 : topTo (F := Ideal) col 2 = Top.next (⟨col 0, ⊥, 0#32, 0#32⟩ : Top Ideal) (col 1) 1#32 := by
    rw [← e1]; rfl
  rw [next_eq] at e2
  by_cases h : col 0 < col 1
  · refine ⟨1, 0, ⟨by rw [e2]; simp only [if_pos h], by omega, by omega, by omega, ?_, ?_⟩⟩
    · intro e he hne
      have : e = 0 := by omega
      subst this; exact Or.inl h
    · intro e he h1 h0; omega
  · refine ⟨0, 1, ⟨by rw [e2]; simp only [if_neg h, if_pos h1], by omega, by omega, by omega, ?_, ?_⟩⟩
    · intro e he hne
      have : e = 1 := by omega
      subst this
      rcases lt_or_eq_of_le (not_lt.mp h) with h | h
      · exact Or.inl h
      · exact Or.inr ⟨h.symm, by omega⟩
    · intro e he h1 h0; omega

theorem scanned_step (col : ℕ → EReal) {n a b : ℕ} (h : Scanned col n a b) : ∃ a' b', Scanned col (n + 1) a' b' := by
  have hab : col b ≤ col a := by
    rcases h.first b h.hb (Ne.symm h.ne) with c | ⟨c, -⟩
    · exact c.le
    · exact c.ge
  have e2 : topTo (F := Ideal) col (n + 1) = Top.next (⟨col a, col b, BitVec.ofNat 32 a, BitVec.ofNat 32 b⟩ : Top Ideal) (col n) (BitVec.ofNat 32 n) := by
    rw [← h.eq]; rfl
  rw [next_eq] at e2
  by_cases h1 : col a < col n
  · refine ⟨n, a, ⟨by rw [e2]; simp only [if_pos h1], by omega, by have := h.ha; omega, by have := h.ha; omega, ?_, ?_⟩⟩
    · intro e he hne
      refine Or.inl ?_
      by_cases hea : e = a
      · rw [hea]; exact h1
      · rcases h.first e (by omega) hea with c | ⟨c, -⟩
        · exact c.trans h1
        · rw [← c]; exact h1
    · intro e he hne hea
      exact h.first e (by omega) hea
  · by_cases h2 : col b < col n
    · refine ⟨a, n, ⟨by rw [e2]; simp only [if_neg h1, if_pos h2], by have := h.ha; omega, by omega, by have := h.ha; omega, ?_, ?_⟩⟩
      · intro e he hea
        by_cases hen : e = n
        · subst hen
          rcases lt_or_eq_of_le (not_lt.mp h1) with c | c
          · exact Or.inl c
          · exact Or.inr ⟨c.symm, h.ha⟩
        · exact h.first e (by omega) hea
      · intro e he hea hen
        refine Or.inl ?_
        by_cases heb : e = b
        · rw [heb]; exact h2
        · rcases h.second e (by omega) hea heb with c | ⟨c, -⟩
          · exact c.trans h2
          · rw [← c]; exact h2
    · refine ⟨a, b, ⟨by rw [e2]; simp only [if_neg h1, if_neg h2], by have := h.ha; omega, by have := h.hb; omega, h.ne, ?_, ?_⟩⟩
      · intro e he hea
        by_cases hen : e = n
        · subst hen
          rcases lt_or_eq_of_le (not_lt.mp h1) with c | c
          · exact Or.inl c
          · exact Or.inr ⟨c.symm, h.ha⟩
        · exact h.first e (by omega) hea
      · intro e he hea heb
        by_cases hen : e = n
        · subst hen
          rcases lt_or_eq_of_le (not_lt.mp h2) with c | c
          · exact Or.inl c
          · exact Or.inr ⟨c.symm, h.hb⟩
        · exact h.second e (by omega) hea heb

theorem scanned (col : ℕ → EReal) (h0 : ⊥ < col 0) (h1 : ⊥ < col 1) : ∀ n, ∃ a b, Scanned col (n + 2) a b
  | 0 => scanned_two col h0 h1
  | n + 1 => by
    obtain ⟨a, b, h⟩ := scanned col h0 h1 n
    exact scanned_step col h

/-- A token's scan over all 64 experts ends at its two best. -/
theorem topTo_best2 (col : ℕ → EReal) (h0 : ⊥ < col 0) (h1 : ⊥ < col 1) :
    ∃ a b : Fin 64, topTo (F := Ideal) col 64 = ⟨col a.val, col b.val, BitVec.ofNat 32 a.val, BitVec.ofNat 32 b.val⟩
      ∧ Best2 (fun e : Fin 64 => col e.val) a b := by
  obtain ⟨a, b, h⟩ := scanned col h0 h1 62
  refine ⟨⟨a, h.ha⟩, ⟨b, h.hb⟩, h.eq, ⟨fun c => h.ne (congrArg Fin.val c), fun e he => ?_, fun e he he' => ?_⟩⟩
  · exact h.first e.val e.isLt fun c => he (Fin.ext c)
  · exact h.second e.val e.isLt (fun c => he (Fin.ext c)) fun c => he' (Fin.ext c)

end Cert.Proof.Route

end
-- ==== Proof.Reference.lean ====
/-
  THE REFERENCE, STAGE BY STAGE. The reference's one composed term is cut into its stages — the router's logits, their softmax,
  the two largest probabilities, the gate each expert gets, the hidden layer, each expert's output — and each stage is read at
  an index over the extended reals.
-/
module

public import proofs.«01_k».proof.Proof.Gen.ReferenceIdeal.Run
public import proofs.«01_k».proof.Proof.Picks
public import Idealize.ShloMosaic.Lib.Pointwise

@[expose] public section

noncomputable section

open scoped BigOperators
open Idealize.ShloMosaic Cert.ReferenceIdeal Cert.ReferenceIdeal.Gen Cert.ReferenceIdeal.Value Idealize.ShloMosaic.TcCoe Idealize.SL.Sem

namespace Cert.Proof.Route

namespace Ref

variable {F : FTy → Type} [FloatOps F]

/-- The router's logits, a row for each token. -/
def logits (X : FVec F S256x1024 .f32) (R : FVec F S64x1024 .f32) : FVec F S256x64 .f32 :=
  Host.dotGeneral dot_S256x1024_S1024x64_S256x64_1_0_0_1_n_n none X (transpose S1024x64 [1, 0] R transposes_S64x1024_S1024x64_1_0)

/-- The exponentials of the logits less their row's maximum. -/
def expos (L : FVec F S256x64 .f32) : FVec F S256x64 .f32 :=
  Host.exp (subf L (broadcastInDim S256x64 ![0, 1] bcast_S256x1_S256x64_0_1 (broadcastInDim S256x1 ![0] bcast_S256_S256x1_0
    (maximumf (broadcastInDim S256 ![] bcast_S_S256 (constant S_ .f32 0xFF800000#32))
      (Host.reduce FloatOps.maximumf L (constant S_ .f32 0xFF800000#32) reducesTo_S256x64_S256_d1 h_S_)))))

/-- The softmax: each exponential over its row's sum. -/
def probs (E : FVec F S256x64 .f32) : FVec F S256x64 .f32 :=
  Host.divf E (broadcastInDim S256x64 ![0, 1] bcast_S256x1_S256x64_0_1 (broadcastInDim S256x1 ![0] bcast_S256_S256x1_0
    (Host.reduceAdd E (constant S_ .f32 0x00000000#32) reducesTo_S256x64_S256_d1 h_S_)))

/-- Each token's two largest probabilities and their experts. -/
def best (P : FVec F S256x64 .f32) : FVec F S256x2 .f32 × IVec S256x2 32 :=
  Host.topK S256x2 1 (FloatOps.cmpfTotal .gt) P sliceFits_S256x64_S256x2

/-- The two probabilities of each token over their sum. -/
def normed (V : FVec F S256x2 .f32) : FVec F S256x2 .f32 :=
  Host.divf V (broadcastInDim S256x2 ![0, 1] bcast_S256x1_S256x2_0_1 (broadcastInDim S256x1 ![0] bcast_S256_S256x1_0
    (Host.reduceAdd V (constant S_ .f32 0x00000000#32) reducesTo_S256x2_S256_d1 h_S_)))

/-- Expert `e`'s gate for token `t`: the sum over the two picks of the pick's weight where the pick is `e`. -/
def gates (I : IVec S256x2 32) (W : FVec F S256x2 .f32) : FVec F S256x64 .f32 :=
  Host.reduceAdd (mulf (uitofp .f32 (cmpi .eq
      (broadcastInDim S256x2x64 ![0, 1, 2] bcast_S256x2x1_S256x2x64_0_1_2 (broadcastInDim S256x2x1 ![0, 1] bcast_S256x2_S256x2x1_0_1 I))
      (broadcastInDim S256x2x64 ![0, 1, 2] bcast_S1x1x64_S256x2x64_0_1_2 (iotaInDim S1x1x64 32 2))))
    (broadcastInDim S256x2x64 ![0, 1, 2] bcast_S256x2x1_S256x2x64_0_1_2 (broadcastInDim S256x2x1 ![0, 1] bcast_S256x2_S256x2x1_0_1 W)))
    (constant S_ .f32 0x00000000#32) reducesTo_S256x2x64_S256x64_d1 h_S_

/-- Every expert's hidden layer, before the activation. -/
def hidden (X : FVec F S256x1024 .f32) (U : FVec F S64x1024x1024 .f32) : FVec F S64x256x1024 .f32 :=
  transpose S64x256x1024 [0, 2, 1] (Host.dotGeneral dot_S64x1024x1024_S256x1024_S64x1024x256_1_1_02_0_n_n none U X)
    transposes_S64x1024x256_S64x256x1024_0_2_1

/-- The gated activation: the first half of the hidden layer through `x / (1 + exp (-x))`, times the second half. -/
def acts (H : FVec F S64x256x1024 .f32) : FVec F S64x256x512 .f32 :=
  have h1 : FVec F S64x256x512 .f32 := extractStridedSlice S64x256x512 ![0, 0, 0] H slices_S64x256x1024_S64x256x512_0_0_0
  mulf (mulf h1 (Host.divf (broadcastInDim S64x256x512 ![] bcast_S_S64x256x512 (constant S_ .f32 0x3F800000#32))
      (addf (broadcastInDim S64x256x512 ![] bcast_S_S64x256x512 (constant S_ .f32 0x3F800000#32)) (Host.exp (Host.negf h1)))))
    (extractStridedSlice S64x256x512 ![0, 0, 512] H slices_S64x256x1024_S64x256x512_0_0_512)

/-- Every expert's output. -/
def outs (A : FVec F S64x256x512 .f32) (D : FVec F S64x512x1024 .f32) : FVec F S64x256x1024 .f32 :=
  Host.dotGeneral dot_S64x256x512_S64x512x1024_S64x256x1024_2_1_1_2_0_0 none A D

/-- The experts' outputs, each times its gate, added up. -/
def mixed (G : FVec F S256x64 .f32) (Y : FVec F S64x256x1024 .f32) : FVec F S256x1024 .f32 :=
  Host.reduceAdd (mulf (broadcastInDim S64x256x1024 ![0, 1, 2] bcast_S64x256x1_S64x256x1024_0_1_2
      (broadcastInDim S64x256x1 ![0, 1] bcast_S64x256_S64x256x1_0_1 (transpose S64x256 [1, 0] G transposes_S256x64_S64x256_1_0))) Y)
    (constant S_ .f32 0x00000000#32) reducesTo_S64x256x1024_S256x1024_d0 h_S_

/-- The gates of the logits `L`. -/
def gatesOf (L : FVec F S256x64 .f32) : FVec F S256x64 .f32 :=
  gates (best (probs (expos L))).2 (normed (best (probs (expos L))).1)

/-- The whole layer over the tokens as rows. -/
def layer (X : FVec F S256x1024 .f32) (R : FVec F S64x1024 .f32) (U : FVec F S64x1024x1024 .f32) (D : FVec F S64x512x1024 .f32) :
    FVec F S256x1024 .f32 :=
  mixed (gatesOf (logits X R)) (outs (acts (hidden X U)) D)

/-- The reference's composed term is the layer over the tokens as rows. -/
theorem res_eq (m : (ℓ : Loc nD τ sig) → Buf (Elt F) ℓ) (c : Dev nD) :
    res_main_v35 m c = shapeCast S32x8x1024 (layer (shapeCast S256x1024 (m ((c.tc : Thread nD τ).loc main_arg0)) shapeCasts_S32x8x1024_S256x1024)
      (m ((c.tc : Thread nD τ).loc main_arg1)) (m ((c.tc : Thread nD τ).loc main_arg2)) (m ((c.tc : Thread nD τ).loc main_arg3)))
      shapeCasts_S256x1024_S32x8x1024 := rfl

/-! ## Each stage at an index -/

theorem logits_apply (X : FVec Ideal S256x1024 .f32) (R : FVec Ideal S64x1024 .f32) (t : Fin 256) (e : Fin 64) :
    logits X R (ix2 t e) = ∑ k : Fin 1024, X (ix2 t k) * R (ix2 e k) := by
  pointwise [logits, dot_S256x1024_S1024x64_S256x64_1_0_0_1_n_n]

theorem minus_inf : Ideal.ofBits .f32 0xFF800000#32 = ⊥ := by simp [Ideal.ofBits, Ideal.ieee]

/-- The greatest logit of a token's row. -/
def rowMax (l : Fin 64 → EReal) : EReal := Finset.univ.fold max ⊥ l

theorem expos_apply (L : FVec Ideal S256x64 .f32) (t : Fin 256) (e : Fin 64) :
    expos L (ix2 t e) = Ideal.exp (L (ix2 t e) - rowMax fun k => L (ix2 t k)) := by
  pointwise [expos, minus_inf, bot_le, sup_of_le_right]
  rfl

theorem probs_apply (E : FVec Ideal S256x64 .f32) (t : Fin 256) (e : Fin 64) :
    probs E (ix2 t e) = Ideal.div (E (ix2 t e)) (∑ k : Fin 64, E (ix2 t k)) := by
  pointwise [probs]

theorem normed_apply (V : FVec Ideal S256x2 .f32) (t : Fin 256) (k : Fin 2) :
    normed V (ix2 t k) = Ideal.div (V (ix2 t k)) (∑ k : Fin 2, V (ix2 t k)) := by
  pointwise [normed]

theorem gates_apply (I : IVec S256x2 32) (W : FVec Ideal S256x2 .f32) (t : Fin 256) (e : Fin 64) :
    gates I W (ix2 t e) = (if I (ix2 t 0) = BitVec.ofNat 32 e.val then W (ix2 t 0) else 0)
      + (if I (ix2 t 1) = BitVec.ofNat 32 e.val then W (ix2 t 1) else 0) := by
  have key : ∀ (x y : BitVec 32) (w : EReal),
      FloatOps.uitofp (F := Ideal) .f32 (IntOp.cmpi .eq x y) * w = if x = y then w else 0 := by
    intro x y w
    show (((BitVec.ofBool (x == y)).toNat : ℝ) : EReal) * w = _
    by_cases h : x = y
    · rw [if_pos h, beq_iff_eq.mpr h]
      show (((1 : ℕ) : ℝ) : EReal) * w = w
      rw [Nat.cast_one, EReal.coe_one, one_mul]
    · rw [if_neg h, beq_eq_false_iff_ne.mpr h]
      show (((0 : ℕ) : ℝ) : EReal) * w = 0
      rw [Nat.cast_zero, EReal.coe_zero, zero_mul]
  pointwise [gates]
  rw [Fin.sum_univ_two, key, key]

theorem hidden_apply (X : FVec Ideal S256x1024 .f32) (U : FVec Ideal S64x1024x1024 .f32) (e : Fin 64) (t : Fin 256) (j : Fin 1024) :
    hidden X U (ix3 e t j) = ∑ k : Fin 1024, U (ix3 e k j) * X (ix2 t k) := by
  pointwise [hidden, dot_S64x1024x1024_S256x1024_S64x1024x256_1_1_02_0_n_n]

theorem acts_apply (H : FVec Ideal S64x256x1024 .f32) (e : Fin 64) (t : Fin 256) (j : Fin 512) :
    acts H (ix3 e t j) = H (ix3 e t ⟨j.val, by omega⟩) * Ideal.logistic (H (ix3 e t ⟨j.val, by omega⟩))
      * H (ix3 e t ⟨512 + j.val, by omega⟩) := by
  pointwise [acts]
  rfl

theorem outs_apply (A : FVec Ideal S64x256x512 .f32) (D : FVec Ideal S64x512x1024 .f32) (e : Fin 64) (t : Fin 256) (h : Fin 1024) :
    outs A D (ix3 e t h) = ∑ j : Fin 512, A (ix3 e t j) * D (ix3 e j h) := by
  pointwise [outs, dot_S64x256x512_S64x512x1024_S64x256x1024_2_1_1_2_0_0]

theorem mixed_apply (G : FVec Ideal S256x64 .f32) (Y : FVec Ideal S64x256x1024 .f32) (t : Fin 256) (h : Fin 1024) :
    mixed G Y (ix2 t h) = ∑ e : Fin 64, G (ix2 t e) * Y (ix3 e t h) := by
  pointwise [mixed]

theorem along_row (t : Fin 256) (p q : Fin 64) : (ix2 t p : S256x64.Idx).along 1 q = ix2 t q := by
  funext a; match a with | ⟨0, _⟩ => rfl | ⟨1, _⟩ => rfl

/-- The sort of a row, its greatest first, at a place. -/
theorem sort_apply {β : Type} (P : FVec Ideal S256x64 .f32) (y : S256x64.Idx → β) (t : Fin 256) (p : Fin 64) :
    (Host.sort2 S256x64 1 (fun l r => FloatOps.cmpfTotal (F := Ideal) (φ := .f32) .gt l.1 r.1) P y).1 (ix2 t p)
        = P (ix2 t (sortedFrom (fun k k' : Fin 64 => decide (P (ix2 t k') < P (ix2 t k))) p))
    ∧ (Host.sort2 S256x64 1 (fun l r => FloatOps.cmpfTotal (F := Ideal) (φ := .f32) .gt l.1 r.1) P y).2 (ix2 t p)
        = y (ix2 t (sortedFrom (fun k k' : Fin 64 => decide (P (ix2 t k') < P (ix2 t k))) p)) := by
  have hc : (fun k k' : Fin 64 => FloatOps.cmpfTotal (F := Ideal) (φ := .f32) .gt
        (P ((ix2 t p : S256x64.Idx).along 1 k)) (P ((ix2 t p : S256x64.Idx).along 1 k')) == 1#1)
      = fun k k' => decide (P (ix2 t k') < P (ix2 t k)) := by
    funext k k'
    rw [along_row, along_row]
    show (BitVec.ofBool (decide (P (ix2 t k') < P (ix2 t k))) == 1#1) = _
    cases decide (P (ix2 t k') < P (ix2 t k)) <;> rfl
  rw [← hc]
  unfold Host.sort2
  rw [dif_pos (by decide : 1 < S256x64.rank)]
  exact ⟨congrArg P (along_row t p _), congrArg y (along_row t p _)⟩

/-- The first two columns of an array of rows. -/
theorem two_apply {α : Type} (v : S256x64.Idx → α) (t : Fin 256) (k : Fin 2) :
    extractStridedSlice S256x2 (fun _ => 0) v sliceFits_S256x64_S256x2 (ix2 t k) = v (ix2 t ⟨k.val, by omega⟩) := by
  refine extractStridedSlice_apply _ _ _ _ _ fun a => ?_
  match a with
  | ⟨0, _⟩ => simp
  | ⟨1, _⟩ => simp

/-- The two picks of a token: the expert at the first and the second place of the sort of its row, and their values. -/
theorem best_apply (P : FVec Ideal S256x64 .f32) (t : Fin 256) : ∃ a b : Fin 64, Best2 (fun e => P (ix2 t e)) a b
    ∧ (best P).1 (ix2 t 0) = P (ix2 t a) ∧ (best P).1 (ix2 t 1) = P (ix2 t b)
    ∧ (best P).2 (ix2 t 0) = BitVec.ofNat 32 a.val ∧ (best P).2 (ix2 t 1) = BitVec.ofNat 32 b.val :=
  ⟨_, _, best2_sorted (n := 62) fun e => P (ix2 t e),
    (two_apply _ t 0).trans (sort_apply P (iotaInDim S256x64 32 1) t 0).1, (two_apply _ t 1).trans (sort_apply P (iotaInDim S256x64 32 1) t 1).1,
    (two_apply _ t 0).trans (sort_apply P (iotaInDim S256x64 32 1) t 0).2, (two_apply _ t 1).trans (sort_apply P (iotaInDim S256x64 32 1) t 1).2⟩

end Ref

end Cert.Proof.Route
-- ==== Proof.Shares.lean ====
/-
  THE TWO PICKS' SHARES. On a row of finite logits the softmax is a strictly increasing function of the logit, so it has the
  same two best places; and a pick's probability over the sum of the two probabilities is a function of the difference of the
  two logits alone, the one the kernel computes.
-/
module

public import proofs.«01_k».proof.Proof.Reference
public import Mathlib.Data.Finset.Fold

@[expose] public section

noncomputable section

open scoped BigOperators
open Idealize.ShloMosaic

namespace Cert.Proof.Route

theorem div_real {x y : ℝ} (h : y ≠ 0) : Ideal.div (x : EReal) (y : EReal) = ((x / y : ℝ) : EReal) := by
  rw [Ideal.div_coe h, ← EReal.coe_mul, mul_one_div]

theorem sum_real {n : ℕ} (f : Fin n → ℝ) : (∑ k, (f k : EReal)) = ((∑ k, f k : ℝ) : EReal) :=
  (map_sum (⟨⟨fun x : ℝ => (x : EReal), EReal.coe_zero⟩, EReal.coe_add⟩ : ℝ →+ EReal) f Finset.univ).symm

/-- The greatest of a row of reals is a real. -/
theorem rowMax_real (l : Fin 64 → ℝ) : ∃ μ : ℝ, Ref.rowMax (fun k => (l k : EReal)) = (μ : EReal) := by
  have hb : (⊥ : EReal) < Ref.rowMax fun k => (l k : EReal) :=
    (Finset.lt_fold_max _).mpr (Or.inr ⟨0, Finset.mem_univ _, EReal.bot_lt_coe _⟩)
  have ht : Ref.rowMax (fun k => (l k : EReal)) < ⊤ :=
    (Finset.fold_max_lt _).mpr ⟨bot_lt_top, fun k _ => EReal.coe_lt_top _⟩
  exact ⟨_, (EReal.coe_toReal ht.ne hb.ne').symm⟩

/-- The share of the first of two picks whose logits are `la` and `lb`. -/
def share (la lb : ℝ) : ℝ := 1 / (1 + Real.exp (lb - la))

theorem share_sum (la lb : ℝ) : 1 - share la lb = share lb la := by
  unfold share
  have h : Real.exp (la - lb) = (Real.exp (lb - la))⁻¹ := by rw [← Real.exp_neg, neg_sub]
  have hp := Real.exp_pos (lb - la)
  rw [h]
  field_simp
  ring

/-- The softmax of a row of finite logits. -/
theorem probs_real (L : FVec Ideal Cert.ReferenceIdeal.S256x64 .f32) (t : Fin 256) (l : Fin 64 → ℝ)
    (hl : ∀ e, L (ix2 t e) = (l e : EReal)) : ∃ μ s : ℝ, 0 < s ∧
      ∀ e, Ref.probs (Ref.expos L) (ix2 t e) = ((Real.exp (l e - μ) / s : ℝ) : EReal) := by
  obtain ⟨μ, hμ⟩ := rowMax_real l
  have hE : ∀ e, Ref.expos L (ix2 t e) = ((Real.exp (l e - μ) : ℝ) : EReal) := by
    intro e
    rw [Ref.expos_apply]
    simp only [hl]
    rw [hμ, ← EReal.coe_sub, Ideal.exp_coe]
  have hs : 0 < ∑ e, Real.exp (l e - μ) := Finset.sum_pos (fun e _ => Real.exp_pos _) ⟨0, Finset.mem_univ _⟩
  refine ⟨μ, _, hs, fun e => ?_⟩
  rw [Ref.probs_apply]
  simp only [hE]
  rw [sum_real, div_real hs.ne']

/-- The gate expert `e` gets of a token whose picks are `a` and `b`. -/
def gate (l : Fin 64 → ℝ) (a b e : Fin 64) : EReal :=
  (if a = e then ((share (l a) (l b) : ℝ) : EReal) else 0) + (if b = e then ((share (l b) (l a) : ℝ) : EReal) else 0)

theorem word_eq_iff (a e : Fin 64) : (BitVec.ofNat 32 a.val = BitVec.ofNat 32 e.val) = (a = e) := by
  refine propext ⟨fun h => Fin.ext ?_, fun h => by rw [h]⟩
  have := congrArg BitVec.toNat h
  simp only [BitVec.toNat_ofNat] at this
  omega

/-- A pick's probability over the two picks' sum is its share. -/
theorem share_of_probs {la lb μ s : ℝ} (hs : 0 < s) :
    Real.exp (la - μ) / s / (Real.exp (la - μ) / s + Real.exp (lb - μ) / s) = share la lb := by
  unfold share
  have hb : Real.exp (lb - μ) = Real.exp (la - μ) * Real.exp (lb - la) := by rw [← Real.exp_add]; congr 1; ring
  have ha := Real.exp_pos (la - μ)
  have hp := Real.exp_pos (lb - la)
  rw [hb]
  field_simp

/-- THE REFERENCE'S GATES on a row of finite logits: those of the row's two best experts. -/
theorem ref_gates (L : FVec Ideal Cert.ReferenceIdeal.S256x64 .f32) (t : Fin 256) (l : Fin 64 → ℝ)
    (hl : ∀ e, L (ix2 t e) = (l e : EReal)) : ∃ a b : Fin 64, Best2 l a b ∧ ∀ e, Ref.gatesOf L (ix2 t e) = gate l a b e := by
  obtain ⟨μ, s, hs, hP⟩ := probs_real L t l hl
  obtain ⟨a, b, hab, va, vb, ia, ib⟩ := Ref.best_apply (Ref.probs (Ref.expos L)) t
  refine ⟨a, b, hab.mono fun x y => ?_, fun e => ?_⟩
  · rw [hP, hP, EReal.coe_lt_coe_iff, div_lt_div_iff_of_pos_right hs, Real.exp_lt_exp, sub_lt_sub_iff_right]
  · have hne : ∀ x y : ℝ, Real.exp (x - μ) / s + Real.exp (y - μ) / s ≠ 0 := fun x y =>
      (add_pos (div_pos (Real.exp_pos _) hs) (div_pos (Real.exp_pos _) hs)).ne'
    unfold Ref.gatesOf gate
    rw [Ref.gates_apply, ia, ib, Ref.normed_apply, Ref.normed_apply, Fin.sum_univ_two, va, vb, hP, hP, ← EReal.coe_add,
      div_real (hne _ _), div_real (hne _ _), share_of_probs hs, add_comm (Real.exp (l a - μ) / s), share_of_probs hs]
    simp only [word_eq_iff]

end Cert.Proof.Route
-- ==== Proof.Experts.lean ====
/-
  THE EXPERTS. Over the extended reals one step of the last call adds the outputs of its two experts, each times the gate the
  step reads off the packed pair of picks and the first pick's weight; all steps together add all the experts.
-/
module

public import proofs.«01_k».proof.Proof.Moe
public import Idealize.ShloMosaic.Lib.Pointwise

@[expose] public section

noncomputable section

open scoped BigOperators
open Idealize.ShloMosaic Cert.KernelIdeal Cert.KernelIdeal.Gen

namespace Cert.Proof.Route

/-! ## The pair of picks -/

/-- The quotient by 64 the way the kernel rounds it: down, the truncated quotient less one where the signs differ. -/
def quot (x : BitVec 32) : BitVec 32 :=
  Scalar.select (IntOp.andi
      (IntOp.cmpi .ne (IntOp.subi (Scalar.extui (IntOp.cmpi .sgt x 0#32)) (Scalar.extui (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

theorem quot_pair : ∀ a b : Fin 64, quot (IntOp.addi (IntOp.muli (BitVec.ofNat 32 a.val) 64#32) (BitVec.ofNat 32 b.val)) = BitVec.ofNat 32 a.val := by
  decide +kernel

theorem rest_pair : ∀ a b : Fin 64, IntOp.subi (IntOp.addi (IntOp.muli (BitVec.ofNat 32 a.val) 64#32) (BitVec.ofNat 32 b.val))
    (IntOp.muli (BitVec.ofNat 32 a.val) 64#32) = BitVec.ofNat 32 b.val := by
  decide +kernel

theorem pay6_apply (pk : Vec Ideal S256x1 .i32) (i : S256x1.Idx) : k2_pay6 (F := Ideal) pk i = quot (pk i) := by
  have h4 : k2_pay4 (F := Ideal) pk = pk := shapeCast_self _ _
  unfold k2_pay6
  rw [h4]
  rfl

theorem pay7_apply (pk : Vec Ideal S256x1 .i32) (i : S256x1.Idx) :
    k2_pay7 (F := Ideal) pk i = IntOp.subi (pk i) (IntOp.muli (quot (pk i)) 64#32) := by
  have h4 : k2_pay4 (F := Ideal) pk = pk := shapeCast_self _ _
  rw [← pay6_apply]
  unfold k2_pay7
  rw [h4]
  rfl

/-! ## One expert -/

/-- The hidden layer of one expert, from its own matrix. -/
def hid (X : S256x1024.Idx → EReal) (u : S1x1024x1024.Idx → EReal) (t : Fin 256) (j : Fin 1024) : EReal :=
  ∑ k : Fin 1024, X (ix2 t k) * u (ix3 0 k j)

/-- The gated activation of one expert. -/
def act (X : S256x1024.Idx → EReal) (u : S1x1024x1024.Idx → EReal) (t : Fin 256) (j : Fin 512) : EReal :=
  hid X u t ⟨j.val, by omega⟩ * Ideal.logistic (hid X u t ⟨j.val, by omega⟩) * hid X u t ⟨512 + j.val, by omega⟩

theorem pay10_apply (X : FVec Ideal S256x1024 .bf16) (u : Vec Ideal S1x1024x1024 .f32) (t : Fin 256) (j : Fin 512) :
    k2_pay10 (F := Ideal) X u (ix2 t j) = act X u t j := by
  pointwise [k2_pay10, dot_S256x1024_S1024x1024_S256x1024_1_0_0_1_n_n]
  rfl

/-- The output of one expert. -/
def out (X : S256x1024.Idx → EReal) (u : S1x1024x1024.Idx → EReal) (d : S1x512x1024.Idx → EReal) (t : Fin 256) (h : Fin 1024) : EReal :=
  ∑ j : Fin 512, act X u t j * d (ix3 0 j h)

/-- The gate an expert gets, from the two picks and the first one's weight. -/
def col (w : EReal) (i1 i2 e : BitVec 32) : EReal := (if i1 = e then w else 0) + (if i2 = e then 1 - w else 0)

theorem pick_eq {α : Type} (x y : BitVec 32) (p q : α) : Scalar.select (IntOp.cmpi .eq x y) p q = if x = y then p else q := by
  show Scalar.select (BitVec.ofBool (x == y)) p q = _
  by_cases h : x = y
  · rw [if_pos h, beq_iff_eq.mpr h]; rfl
  · rw [if_neg h, beq_eq_false_iff_ne.mpr h]; rfl

theorem pay9_apply (X : FVec Ideal S256x1024 .bf16) (w : FVec Ideal S256x1 .f32) (i1 i2 : IVec S256x1 32) (z : FVec Ideal S256x1024 .f32)
    (a b : BitVec 32) (u : Vec Ideal S1x1024x1024 .f32) (d : Vec Ideal S1x512x1024 .f32) (t : Fin 256) (h : Fin 1024) :
    k2_pay9 (F := Ideal) X w i1 i2 z a b u d (ix2 t h)
      = z (ix2 t h) + col (w (ix2 t 0)) (i1 (ix2 t 0)) (i2 (ix2 t 0)) (Scalar.addi a b) * out X u d t h := by
  pointwise [k2_pay9, dot_S256x1024_S1024x1024_S256x1024_1_0_0_1_n_n, dot_S256x512_S512x1024_S256x1024_1_0_0_1_n_n]
  simp only [pick_eq]
  rfl

theorem pay1_apply (w : FVec Ideal S256x1 .f32) (i1 i2 : IVec S256x1 32) (z : FVec Ideal S256x1024 .f32)
    (a : BitVec 32) (A : FVec Ideal S256x512 .bf16) (d : Vec Ideal S1x512x1024 .f32) (o : Vec Ideal S256x1024 .f32) (t : Fin 256) (h : Fin 1024) :
    k2_pay1 (F := Ideal) w i1 i2 z a A d o (ix2 t h)
      = o (ix2 t h) + (z (ix2 t h) + col (w (ix2 t 0)) (i1 (ix2 t 0)) (i2 (ix2 t 0)) a * ∑ j : Fin 512, A (ix2 t j) * d (ix3 0 j h)) := by
  pointwise [k2_pay1, dot_S256x512_S512x1024_S256x1024_1_0_0_1_n_n]
  simp only [pick_eq]
  rfl

/-! ## One step, and all of them -/

/-- Expert `e`'s own matrices. -/
def upAt (U : S64x1024x1024.Idx → EReal) (e : Fin 64) : S1x1024x1024.Idx → EReal := fun i => U (ix3 e (i 1) (i 2))
def downAt (D : S64x512x1024.Idx → EReal) (e : Fin 64) : S1x512x1024.Idx → EReal := fun i => D (ix3 e (i 1) (i 2))

/-- Expert `e`'s part of the result. -/
def part (w : EReal) (i1 i2 : BitVec 32) (X : S256x1024.Idx → EReal) (U : S64x1024x1024.Idx → EReal) (D : S64x512x1024.Idx → EReal)
    (t : Fin 256) (h : Fin 1024) (e : ℕ) : EReal :=
  col w i1 i2 (BitVec.ofNat 32 e) * out X (upAt U (Fin.ofNat 64 e)) (downAt D (Fin.ofNat 64 e)) t h

theorem up_even (U : S64x1024x1024.Idx → EReal) (n : ℕ) :
    upOf0 (F := Ideal) (upPair (F := Ideal) U n) = upAt U (Fin.ofNat 64 (2 * n)) := by
  funext i
  have h0 : (i 0).val = 0 := by have : (i 0).val < 1 := (i 0).isLt; omega
  refine congrArg U (funext fun a => ?_)
  match a with
  | ⟨0, _⟩ => exact Fin.ext (congrArg (· % 64) (by show 2 * n + (0 + 1 * (i 0).val) = 2 * n; omega))
  | ⟨1, _⟩ => exact Fin.ext (by show 0 + 1 * (i 1).val = (i 1).val; omega)
  | ⟨2, _⟩ => exact Fin.ext (by show 0 + 1 * (i 2).val = (i 2).val; omega)

theorem up_odd (U : S64x1024x1024.Idx → EReal) (n : ℕ) :
    upOf1 (F := Ideal) (upPair (F := Ideal) U n) = upAt U (Fin.ofNat 64 (2 * n + 1)) := by
  funext i
  have h0 : (i 0).val = 0 := by have : (i 0).val < 1 := (i 0).isLt; omega
  refine congrArg U (funext fun a => ?_)
  match a with
  | ⟨0, _⟩ => exact Fin.ext (congrArg (· % 64) (by show 2 * n + (1 + 1 * (i 0).val) = 2 * n + 1; omega))
  | ⟨1, _⟩ => exact Fin.ext (by show 0 + 1 * (i 1).val = (i 1).val; omega)
  | ⟨2, _⟩ => exact Fin.ext (by show 0 + 1 * (i 2).val = (i 2).val; omega)

theorem down_even (D : S64x512x1024.Idx → EReal) (n : ℕ) :
    downOf0 (F := Ideal) (downPair (F := Ideal) D n) = downAt D (Fin.ofNat 64 (2 * n)) := by
  funext i
  have h0 : (i 0).val = 0 := by have : (i 0).val < 1 := (i 0).isLt; omega
  refine congrArg D (funext fun a => ?_)
  match a with
  | ⟨0, _⟩ => exact Fin.ext (congrArg (· % 64) (by show 2 * n + (0 + 1 * (i 0).val) = 2 * n; omega))
  | ⟨1, _⟩ => exact Fin.ext (by show 0 + 1 * (i 1).val = (i 1).val; omega)
  | ⟨2, _⟩ => exact Fin.ext (by show 0 + 1 * (i 2).val = (i 2).val; omega)

theorem down_odd (D : S64x512x1024.Idx → EReal) (n : ℕ) :
    downOf1 (F := Ideal) (downPair (F := Ideal) D n) = downAt D (Fin.ofNat 64 (2 * n + 1)) := by
  funext i
  have h0 : (i 0).val = 0 := by have : (i 0).val < 1 := (i 0).isLt; omega
  refine congrArg D (funext fun a => ?_)
  match a with
  | ⟨0, _⟩ => exact Fin.ext (congrArg (· % 64) (by show 2 * n + (1 + 1 * (i 0).val) = 2 * n + 1; omega))
  | ⟨1, _⟩ => exact Fin.ext (by show 0 + 1 * (i 1).val = (i 1).val; omega)
  | ⟨2, _⟩ => exact Fin.ext (by show 0 + 1 * (i 2).val = (i 2).val; omega)

theorem step_apply (n : ℕ) (pk : Vec Ideal S256x1 .i32) (w : Vec Ideal S256x1 .f32) (X : Vec Ideal S256x1024 .f32)
    (U : S64x1024x1024.Idx → EReal) (D : S64x512x1024.Idx → EReal) (o : Vec Ideal S256x1024 .f32) (t : Fin 256) (h : Fin 1024)
    (i1 i2 : Fin 64) (hpk : pk (ix2 t 0) = IntOp.addi (IntOp.muli (BitVec.ofNat 32 i1.val) 64#32) (BitVec.ofNat 32 i2.val)) :
    moeStep (F := Ideal) (BitVec.ofNat 32 n) pk w X (upPair (F := Ideal) U n) (downPair (F := Ideal) D n) o (ix2 t h)
      = o (ix2 t h) + (part (w (ix2 t 0)) (BitVec.ofNat 32 i1.val) (BitVec.ofNat 32 i2.val) X U D t h (2 * n)
        + part (w (ix2 t 0)) (BitVec.ofNat 32 i1.val) (BitVec.ofNat 32 i2.val) X U D t h (2 * n + 1)) := by
  have h1 : k2_pay6 (F := Ideal) pk (ix2 t 0) = BitVec.ofNat 32 i1.val := by rw [pay6_apply, hpk, quot_pair]
  have h2 : k2_pay7 (F := Ideal) pk (ix2 t 0) = BitVec.ofNat 32 i2.val := by rw [pay7_apply, hpk, quot_pair, rest_pair]
  have h5 : k2_pay5 (F := Ideal) w = w := shapeCast_self _ _
  have h3 : k2_pay3 (F := Ideal) X = X := shapeCast_self _ _
  have e0 : Scalar.addi (Scalar.muli (BitVec.ofNat 32 n) 2#32) 0#32 = BitVec.ofNat 32 (2 * n) := by
    show BitVec.ofNat 32 n * BitVec.ofNat 32 2 + BitVec.ofNat 32 0 = _
    rw [← BitVec.ofNat_mul, ← BitVec.ofNat_add, Nat.mul_comm, Nat.add_zero]
  have e1 : Scalar.addi (Scalar.muli (BitVec.ofNat 32 n) 2#32) 1#32 = BitVec.ofNat 32 (2 * n + 1) := by
    show BitVec.ofNat 32 n * BitVec.ofNat 32 2 + BitVec.ofNat 32 1 = _
    rw [← BitVec.ofNat_mul, ← BitVec.ofNat_add, Nat.mul_comm]
  have hz : k2_pay8 (F := Ideal) (ix2 t h) = 0 := Ideal.ofBits_zero_f32
  unfold moeStep
  rw [pay1_apply, pay9_apply, h1, h2, h5, h3, e0, e1, hz, zero_add]
  rw [up_even, up_odd, down_even, down_odd]
  simp only [pay10_apply]
  rfl

/-- ALL THE STEPS: the sum of every expert's part, the picks being `i1` and `i2` at token `t`. -/
theorem moeTo_apply (pk : Vec Ideal S256x1 .i32) (w : Vec Ideal S256x1 .f32) (X : Vec Ideal S256x1024 .f32)
    (U : S64x1024x1024.Idx → EReal) (D : S64x512x1024.Idx → EReal) (t : Fin 256) (h : Fin 1024)
    (i1 i2 : Fin 64) (hpk : pk (ix2 t 0) = IntOp.addi (IntOp.muli (BitVec.ofNat 32 i1.val) 64#32) (BitVec.ofNat 32 i2.val)) (n : ℕ) :
    moeTo (F := Ideal) pk w X U D n (ix2 t h)
      = ∑ e ∈ Finset.range (2 * n + 2), part (w (ix2 t 0)) (BitVec.ofNat 32 i1.val) (BitVec.ofNat 32 i2.val) X U D t h e := by
  induction n with
  | zero =>
    have hz : k2_pay2 (F := Ideal) (ix2 t h) = 0 := Ideal.ofBits_zero_f32
    unfold moeTo
    rw [step_apply 0 pk w X U D _ t h i1 i2 hpk, hz, zero_add, Finset.sum_range_succ, Finset.sum_range_succ]
    simp
  | succ n ih =>
    unfold moeTo
    rw [step_apply (n + 1) pk w X U D _ t h i1 i2 hpk, ih, show 2 * (n + 1) + 2 = 2 * n + 2 + 1 + 1 by omega, Finset.sum_range_succ _ (2 * n + 2 + 1),
      Finset.sum_range_succ _ (2 * n + 2), add_assoc, show 2 * (n + 1) = 2 * n + 2 by omega]

end Cert.Proof.Route
-- ==== Proof.Layer.lean ====
/-
  THE TWO LAYERS ARE ONE. On finite tokens and a finite router the kernel's gates are the reference's — the running scan and
  the softmax's two greatest pick the same experts and weigh them alike — and the experts' outputs are the same sums.
-/
module

public import proofs.«01_k».proof.Proof.Shares
public import proofs.«01_k».proof.Proof.Experts

@[expose] public section

noncomputable section

open scoped BigOperators
open Idealize.ShloMosaic Cert.KernelIdeal Cert.KernelIdeal.Gen

namespace Cert.Proof.Route

/-- The kernel's logits are the reference's, transposed. -/
theorem scores_apply (X : FVec Ideal S256x1024 .f32) (R : FVec Ideal S64x1024 .f32) (e : Fin 64) (t : Fin 256) :
    k0_pay1 (F := Ideal) X R (ix2 e t) = Ref.logits X R (ix2 t e) := by
  rw [Ref.logits_apply]
  pointwise [k0_pay1, dot_S256x1024_S64x1024_S256x64_1_1_0_0_n_n]

/-- Finite tokens and a finite router have finite logits. -/
theorem logits_real (X : FVec Ideal S256x1024 .f32) (R : FVec Ideal S64x1024 .f32)
    (hX : ∀ i, ∃ r : ℝ, X i = (r : EReal)) (hR : ∀ i, ∃ r : ℝ, R i = (r : EReal)) (t : Fin 256) :
    ∃ l : Fin 64 → ℝ, ∀ e, Ref.logits X R (ix2 t e) = (l e : EReal) := by
  choose x hx using hX
  choose r hr using hR
  refine ⟨fun e => ∑ k : Fin 1024, x (ix2 t k) * r (ix2 e k), fun e => ?_⟩
  rw [Ref.logits_apply, ← sum_real]
  simp only [hx, hr, EReal.coe_mul]

/-- THE KERNEL'S PICKS AND WEIGHT on a token of finite logits. -/
theorem kernel_picks (S : FVec Ideal S64x256 .f32) (t : Fin 256) (l : Fin 64 → ℝ) (hl : ∀ e, S (ix2 e t) = (l e : EReal)) :
    ∃ a b : Fin 64, Best2 l a b
      ∧ pairs (F := Ideal) S (ix1 t) = IntOp.addi (IntOp.muli (BitVec.ofNat 32 a.val) 64#32) (BitVec.ofNat 32 b.val)
      ∧ weights (F := Ideal) S (ix1 t) = ((share (l a) (l b) : ℝ) : EReal) := by
  have hc : ∀ e : Fin 64, colOf (F := Ideal) S t e.val = (l e : EReal) := by
    intro e
    unfold colOf
    rw [show Fin.ofNat 64 e.val = e from Fin.ext (Nat.mod_eq_of_lt e.isLt)]
    exact hl e
  obtain ⟨a, b, htop, hab⟩ := topTo_best2 (colOf (F := Ideal) S t)
    (by rw [show (0 : ℕ) = (0 : Fin 64).val from rfl, hc]; exact EReal.bot_lt_coe _)
    (by rw [show (1 : ℕ) = (1 : Fin 64).val from rfl, hc]; exact EReal.bot_lt_coe _)
  rw [hc, hc] at htop
  change topOf (F := Ideal) S t = _ at htop
  refine ⟨a, b, hab.mono fun x y => ?_, ?_, ?_⟩
  · rw [hc, hc, EReal.coe_lt_coe_iff]
  · show IntOp.addi (IntOp.muli (topOf (F := Ideal) S t).i1 64#32) (topOf (F := Ideal) S t).i2 = _
    rw [htop]
  · show Ideal.div (Ideal.ofBits .f32 0x3F800000#32) (Ideal.ofBits .f32 0x3F800000#32
      + Ideal.exp ((topOf (F := Ideal) S t).m2 - (topOf (F := Ideal) S t).m1)) = _
    rw [htop]
    show Ideal.div (Ideal.ofBits .f32 0x3F800000#32) (Ideal.ofBits .f32 0x3F800000#32 + Ideal.exp ((l b : EReal) - (l a : EReal))) = _
    rw [Ideal.ofBits_one_f32, ← EReal.coe_sub, Ideal.exp_coe, ← EReal.coe_one, ← EReal.coe_add,
      div_real (by have := Real.exp_pos (l b - l a); linarith)]
    rfl

/-- One expert's output, on either side. -/
theorem out_eq (X : FVec Ideal S256x1024 .f32) (U : FVec Ideal S64x1024x1024 .f32) (D : FVec Ideal S64x512x1024 .f32)
    (e : Fin 64) (t : Fin 256) (h : Fin 1024) :
    out X (upAt U e) (downAt D e) t h = Ref.outs (Ref.acts (Ref.hidden X U)) D (ix3 e t h) := by
  have hh : ∀ j, Ref.hidden X U (ix3 e t j) = hid X (upAt U e) t j := fun j =>
    (Ref.hidden_apply X U e t j).trans (Finset.sum_congr rfl fun k _ => mul_comm _ _)
  rw [Ref.outs_apply]
  refine Finset.sum_congr rfl fun j _ => ?_
  rw [Ref.acts_apply, hh, hh]
  rfl

/-- THE LAYER: the kernel's steps over the packed picks and weights of its logits, and the reference's layer. -/
theorem layer_eq (X : FVec Ideal S256x1024 .f32) (R : FVec Ideal S64x1024 .f32) (U : FVec Ideal S64x1024x1024 .f32)
    (D : FVec Ideal S64x512x1024 .f32) (hX : ∀ i, ∃ r : ℝ, X i = (r : EReal)) (hR : ∀ i, ∃ r : ℝ, R i = (r : EReal)) :
    moeTo (F := Ideal) (shapeCast S256x1 (pairs (F := Ideal) (k0_pay1 (F := Ideal) X R)) shapeCasts_S256_S256x1)
        (shapeCast S256x1 (weights (F := Ideal) (k0_pay1 (F := Ideal) X R)) shapeCasts_S256_S256x1) X U D 31
      = Ref.layer X R U D := by
  funext i
  obtain ⟨t, h, rfl⟩ : ∃ t h, i = ix2 t h := ⟨_, _, eq_ix2 i⟩
  obtain ⟨l, hl⟩ := logits_real X R hX hR t
  obtain ⟨a, b, hab, hp, hw⟩ := kernel_picks (k0_pay1 (F := Ideal) X R) t l fun e => (scores_apply X R e t).trans (hl e)
  obtain ⟨a', b', hab', hg⟩ := ref_gates (Ref.logits X R) t l hl
  obtain ⟨rfl, rfl⟩ := hab.unique hab'
  have hp' : shapeCast S256x1 (pairs (F := Ideal) (k0_pay1 (F := Ideal) X R)) shapeCasts_S256_S256x1 (ix2 t 0)
      = IntOp.addi (IntOp.muli (BitVec.ofNat 32 a.val) 64#32) (BitVec.ofNat 32 b.val) := by
    rw [← hp]; pointwise
  have hw' : shapeCast S256x1 (weights (F := Ideal) (k0_pay1 (F := Ideal) X R)) shapeCasts_S256_S256x1 (ix2 t 0)
      = ((share (l a) (l b) : ℝ) : EReal) := by
    rw [← hw]; pointwise
  rw [moeTo_apply _ _ X U D t h a b hp' 31, hw']
  refine Eq.trans ?_ (Ref.mixed_apply (Ref.gatesOf (Ref.logits X R)) _ t h).symm
  rw [show 2 * 31 + 2 = 64 from rfl, Finset.sum_range]
  refine Finset.sum_congr rfl fun e _ => ?_
  rw [hg, ← out_eq]
  unfold part gate col
  rw [show Fin.ofNat 64 e.val = e from Fin.ext (Nat.mod_eq_of_lt e.isLt), ← EReal.coe_one, ← EReal.coe_sub, share_sum]
  simp only [word_eq_iff]

end Cert.Proof.Route
-- ==== Proof.Finite.lean ====
/-
  What the precondition says: every element of the tokens and of the router is a real.
-/
module

public import proofs.«01_k».proof.Proof.Gen.Pre_finite_router
public import Idealize.ShloMosaic.Lib.ReduceAll
public import Idealize.ShloMosaic.PureOps.Ideal.Laws

@[expose] public section

noncomputable section

open Idealize.ShloMosaic Cert.Pre_finite_router

namespace Cert.Proof.Route

theorem plus_inf : Ideal.ofBits .f32 0x7F800000#32 = ⊤ := by simp [Ideal.ofBits, Ideal.ieee]

/-- A value whose magnitude is below `+∞` is a real. -/
theorem real_of_finite (x : EReal)
    (h : FloatOps.cmpf (F := Ideal) (φ := .f32) .olt (FloatOps.hostAbsf x) (FloatOps.ofBits .f32 0x7F800000#32) = 1#1) :
    ∃ r : ℝ, x = (r : EReal) := by
  change BitVec.ofBool (decide (max x (-x) < Ideal.ofBits .f32 0x7F800000#32)) = 1#1 at h
  rw [plus_inf] at h
  have hlt : max x (-x) < ⊤ := by
    by_contra c
    rw [decide_eq_false c] at h
    exact absurd h (by decide)
  have ht : x ≠ ⊤ := ((le_max_left x (-x)).trans_lt hlt).ne
  have hb : x ≠ ⊥ := fun c => by
    have := (le_max_right x (-x)).trans_lt hlt
    rw [c, EReal.neg_bot] at this
    exact lt_irrefl _ this
  exact ⟨_, (EReal.coe_toReal ht hb).symm⟩

instance : Subsingleton S_.Idx := ⟨fun _ _ => funext fun a => a.elim0⟩

theorem finite_of_pre (X : FVec Ideal S32x8x1024 .f32) (R : FVec Ideal S64x1024 .f32) (U : FVec Ideal S64x1024x1024 .f32)
    (D : FVec Ideal S64x512x1024 .f32) (h : Cert.Pre_finite_router.fn (F := Ideal) X R U D = fun _ => 1#1) :
    (∀ i, ∃ r : ℝ, X i = (r : EReal)) ∧ ∀ i, ∃ r : ℝ, R i = (r : EReal) := by
  have h0 := IntOp.andi_eq_one.mp (congrFun h fun a => a.elim0)
  exact ⟨fun i => real_of_finite _ (Host.reduce_andi_all _ _ _ _ _ h0.1 i), fun i => real_of_finite _ (Host.reduce_andi_all _ _ _ _ _ h0.2 i)⟩

end Cert.Proof.Route
-- ==== Proof.Equal.lean ====
/-
  THE VALUE CLAIM: from finite tokens and a finite router the kernel's result is the reference's.
-/
module

public import proofs.«01_k».proof.Proof.Frames
public import proofs.«01_k».proof.Proof.Layer
public import proofs.«01_k».proof.Proof.Finite

@[expose] public section

noncomputable section

open Idealize.ShloMosaic Idealize.ShloMosaic.TcCoe Idealize.SL.Sem

namespace Cert.Proof.Route

theorem equal : algebraic_KernelIdeal_ReferenceIdeal_pre_finite_router := by
  intro m ρ m' ρ' hpre hagree
  refine ⟨fun c => result m c, (θ_run Cert.KernelIdeal.defs _ _).mono (fun _ h => h.1) (run_value (F := Ideal) m ρ), ?_⟩
  refine (θ_run Cert.ReferenceIdeal.defs _ _).mono (fun _ h c => ⟨(h c).1.trans ?_, (h c).2⟩) (Cert.ReferenceIdeal.Value.run (F := Ideal) m' ρ')
  obtain ⟨hX, hR⟩ := finite_of_pre _ _ _ _ (hpre c)
  refine (Ref.res_eq m' c).trans ?_
  rw [(hagree c).1, (hagree c).2.1, (hagree c).2.2.1, (hagree c).2.2.2]
  refine congrArg (fun y => shapeCast Cert.KernelIdeal.S32x8x1024 y Cert.KernelIdeal.Gen.shapeCasts_S256x1024_S32x8x1024) (layer_eq _ _ _ _ ?_ hR).symm
  exact fun i => hX _

end Cert.Proof.Route
-- ==== Proof.lean ====
/-
  The certificate's claims, assembled behind the programs' facts.
-/
module

public import proofs.«01_k».proof.Proof.Gen.Pre_finite_router
public import proofs.«01_k».proof.Defs
public import proofs.«01_k».proof.Proof.Frames
public import proofs.«01_k».proof.Proof.Equal
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_router.Gen.facts,
    Route.frame_kernel, Route.frame_ideal, fun m ρ _ => Route.frame_ideal m ρ trivial,
    Route.frame_reference, fun m ρ _ => Route.frame_reference m ρ trivial, Route.preserves, Route.equal⟩

end Cert.Proof

end
